-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x4096x32x6 : Shape := ⟨4, ![8, 4096, 32, 6]⟩
abbrev S32x3x1x1 : Shape := ⟨4, ![32, 3, 1, 1]⟩
abbrev S32 : Shape := ⟨1, ![32]⟩
abbrev S64x32x4x4 : Shape := ⟨4, ![64, 32, 4, 4]⟩
abbrev S64 : Shape := ⟨1, ![64]⟩
abbrev S8x4096x32x1 : Shape := ⟨4, ![8, 4096, 32, 1]⟩
abbrev S8x4096x32 : Shape := ⟨3, ![8, 4096, 32]⟩
abbrev S_ : Shape := ⟨0, ![]⟩
abbrev S8x4096x1 : Shape := ⟨3, ![8, 4096, 1]⟩
abbrev S8x4096 : Shape := ⟨2, ![8, 4096]⟩

class Facts : Prop where
  slices_S8x4096x32x6_S8x4096x32x1_0_0_0_0 : S8x4096x32x6.Slices ![0, 0, 0, 0] S8x4096x32x1
  shapeCasts_S8x4096x32x1_S8x4096x32 : S8x4096x32x1.ShapeCasts S8x4096x32
  slices_S8x4096x32x6_S8x4096x32x1_0_0_0_1 : S8x4096x32x6.Slices ![0, 0, 0, 1] S8x4096x32x1
  slices_S8x4096x32x6_S8x4096x32x1_0_0_0_3 : S8x4096x32x6.Slices ![0, 0, 0, 3] S8x4096x32x1
  slices_S8x4096x32x6_S8x4096x32x1_0_0_0_5 : S8x4096x32x6.Slices ![0, 0, 0, 5] S8x4096x32x1
  bcast_S_S8x4096x32 : S_.BroadcastsInDim S8x4096x32 (![] : Fin 0 → Fin S8x4096x32.rank)
  slices_S8x4096x32_S8x4096x1_0_0_0 : S8x4096x32.Slices ![0, 0, 0] S8x4096x1
  bcast_S8x4096x1_S8x4096x32_0_1_2 : S8x4096x1.BroadcastsInDim S8x4096x32 (![0, 1, 2] : Fin 3 → Fin S8x4096x32.rank)
  reducesTo_S8x4096x32_S8x4096_d2 : S8x4096x32.ReducesTo [2] S8x4096
  h_S_ : 0 < S_.numel
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_
  reducesTo_S8x4096x32_S_d0_1_2 : S8x4096x32.ReducesTo [0, 1, 2] S_
  reducesTo_S8x4096_S_d0_1 : S8x4096.ReducesTo [0, 1] S_

variable [Facts]

def fn_part3 {F : FTy → Type} [FloatOps F] (main_arg7 : FVec F S64 .f32) (main_v20 : IVec S8x4096x32 1) (main_v28 : IVec S8x4096 1) (main_v35 : IVec S8x4096 1) (main_v50 : IVec S_ 1) (main_v52 : IVec S32 1) (main_c_16 : IVec S_ 1) : IVec S_ 1 :=
  let main_v53 : IVec S_ 1 := (fun x v => Host.reduce IntOp.andi x v reducesTo_S32_S_d0 h_S_) main_v52 main_c_16
  let main_cst_17 : FVec F S_ .f32 := constant S_ .f32 0x3F800000#32
  let main_v54 : FVec F S64 .f32 := broadcastInDim S64 ![] bcast_S_S64 main_cst_17
  let main_v55 : IVec S64 1 := cmpf .oeq main_arg7 main_v54
  let main_c_18 : IVec S_ 1 := constantI S_ 1 1#1
  let main_v56 : IVec S_ 1 := (fun x v => Host.reduce IntOp.andi x v reducesTo_S64_S_d0 h_S_) main_v55 main_c_18
  let main_v57 : IVec S_ 1 := andi main_v53 main_v56
  let main_c_19 : IVec S_ 1 := constantI S_ 1 1#1
  let main_v58 : IVec S_ 1 := (fun x v => Host.reduce IntOp.andi x v reducesTo_S8x4096x32_S_d0_1_2 h_S_) main_v20 main_c_19
  let main_v59 : IVec S8x4096 1 := ori main_v28 main_v35
  let main_c_20 : IVec S_ 1 := constantI S_ 1 1#1
  let main_v60 : IVec S_ 1 := (fun x v => Host.reduce IntOp.andi x v reducesTo_S8x4096_S_d0_1 h_S_) main_v59 main_c_20
  let main_v61 : IVec S_ 1 := andi main_v58 main_v60
  let main_v62 : IVec S_ 1 := andi main_v61 main_v50
  let main_v63 : IVec S_ 1 := andi main_v62 main_v57
  main_v63

def fn_part2 {F : FTy → Type} [FloatOps F] (main_arg3 : FVec F S32 .f32) (main_arg4 : FVec F S32 .f32) (main_arg6 : FVec F S64 .f32) (main_arg7 : FVec F S64 .f32) (main_arg8 : FVec F S64 .f32) (main_v20 : IVec S8x4096x32 1) (main_v28 : IVec S8x4096 1) (main_v35 : IVec S8x4096 1) (main_v37 : IVec S32 1) : IVec S_ 1 :=
  let main_c_8 : IVec S_ 1 := constantI S_ 1 1#1
  let main_v38 : IVec S_ 1 := (fun x v => Host.reduce IntOp.andi x v reducesTo_S32_S_d0 h_S_) main_v37 main_c_8
  let main_cst_9 : FVec F S_ .f32 := constant S_ .f32 0x00000000#32
  let main_v39 : FVec F S32 .f32 := broadcastInDim S32 ![] bcast_S_S32 main_cst_9
  let main_v40 : IVec S32 1 := cmpf .oeq main_arg4 main_v39
  let main_c_10 : IVec S_ 1 := constantI S_ 1 1#1
  let main_v41 : IVec S_ 1 := (fun x v => Host.reduce IntOp.andi x v reducesTo_S32_S_d0 h_S_) main_v40 main_c_10
  let main_v42 : IVec S_ 1 := andi main_v38 main_v41
  let main_cst_11 : FVec F S_ .f32 := constant S_ .f32 0x00000000#32
  let main_v43 : FVec F S64 .f32 := broadcastInDim S64 ![] bcast_S_S64 main_cst_11
  let main_v44 : IVec S64 1 := cmpf .oeq main_arg6 main_v43
  let main_c_12 : IVec S_ 1 := constantI S_ 1 1#1
  let main_v45 : IVec S_ 1 := (fun x v => Host.reduce IntOp.andi x v reducesTo_S64_S_d0 h_S_) main_v44 main_c_12
  let main_v46 : IVec S_ 1 := andi main_v42 main_v45
  let main_cst_13 : FVec F S_ .f32 := constant S_ .f32 0x00000000#32
  let main_v47 : FVec F S64 .f32 := broadcastInDim S64 ![] bcast_S_S64 main_cst_13
  let main_v48 : IVec S64 1 := cmpf .oeq main_arg8 main_v47
  let main_c_14 : IVec S_ 1 := constantI S_ 1 1#1
  let main_v49 : IVec S_ 1 := (fun x v => Host.reduce IntOp.andi x v reducesTo_S64_S_d0 h_S_) main_v48 main_c_14
  let main_v50 : IVec S_ 1 := andi main_v46 main_v49
  let main_cst_15 : FVec F S_ .f32 := constant S_ .f32 0x3F800000#32
  let main_v51 : FVec F S32 .f32 := broadcastInDim S32 ![] bcast_S_S32 main_cst_15
  let main_v52 : IVec S32 1 := cmpf .oeq main_arg3 main_v51
  let main_c_16 : IVec S_ 1 := constantI S_ 1 1#1
  fn_part3 (F := F) main_arg7 main_v20 main_v28 main_v35 main_v50 main_v52 main_c_16

def fn_part1 {F : FTy → Type} [FloatOps F] (main_arg2 : FVec F S32 .f32) (main_arg3 : FVec F S32 .f32) (main_arg4 : FVec F S32 .f32) (main_arg6 : FVec F S64 .f32) (main_arg7 : FVec F S64 .f32) (main_arg8 : FVec F S64 .f32) (main_v1 : FVec F S8x4096x32 .f32) (main_v3 : FVec F S8x4096x32 .f32) (main_v5 : FVec F S8x4096x32 .f32) (main_v7 : FVec F S8x4096x32 .f32) (main_v17 : IVec S8x4096x32 1) (main_v19 : IVec S8x4096x32 1) : IVec S_ 1 :=
  let main_v20 : IVec S8x4096x32 1 := andi main_v17 main_v19
  let main_v21 : FVec F S8x4096x1 .f32 := (extractStridedSlice S8x4096x1 ![0, 0, 0] · slices_S8x4096x32_S8x4096x1_0_0_0) main_v1
  let main_v22 : FVec F S8x4096x32 .f32 := broadcastInDim S8x4096x32 ![0, 1, 2] bcast_S8x4096x1_S8x4096x32_0_1_2 main_v21
  let main_v23 : IVec S8x4096x32 1 := cmpf .une main_v1 main_v22
  let main_v24 : FVec F S8x4096x1 .f32 := (extractStridedSlice S8x4096x1 ![0, 0, 0] · slices_S8x4096x32_S8x4096x1_0_0_0) main_v3
  let main_v25 : FVec F S8x4096x32 .f32 := broadcastInDim S8x4096x32 ![0, 1, 2] bcast_S8x4096x1_S8x4096x32_0_1_2 main_v24
  let main_v26 : IVec S8x4096x32 1 := cmpf .une main_v3 main_v25
  let main_v27 : IVec S8x4096x32 1 := ori main_v23 main_v26
  let main_c : IVec S_ 1 := constantI S_ 1 0#1
  let main_v28 : IVec S8x4096 1 := (fun x v => Host.reduce IntOp.ori x v reducesTo_S8x4096x32_S8x4096_d2 h_S_) main_v27 main_c
  let main_cst_3 : FVec F S_ .f32 := constant S_ .f32 0x00000000#32
  let main_v29 : FVec F S8x4096x32 .f32 := broadcastInDim S8x4096x32 ![] bcast_S_S8x4096x32 main_cst_3
  let main_v30 : IVec S8x4096x32 1 := cmpf .oge main_v5 main_v29
  let main_c_4 : IVec S_ 1 := constantI S_ 1 0#1
  let main_v31 : IVec S8x4096 1 := (fun x v => Host.reduce IntOp.ori x v reducesTo_S8x4096x32_S8x4096_d2 h_S_) main_v30 main_c_4
  let main_cst_5 : FVec F S_ .f32 := constant S_ .f32 0x00000000#32
  let main_v32 : FVec F S8x4096x32 .f32 := broadcastInDim S8x4096x32 ![] bcast_S_S8x4096x32 main_cst_5
  let main_v33 : IVec S8x4096x32 1 := cmpf .oge main_v7 main_v32
  let main_c_6 : IVec S_ 1 := constantI S_ 1 0#1
  let main_v34 : IVec S8x4096 1 := (fun x v => Host.reduce IntOp.ori x v reducesTo_S8x4096x32_S8x4096_d2 h_S_) main_v33 main_c_6
  let main_v35 : IVec S8x4096 1 := andi main_v31 main_v34
  let main_cst_7 : FVec F S_ .f32 := constant S_ .f32 0x00000000#32
  let main_v36 : FVec F S32 .f32 := broadcastInDim S32 ![] bcast_S_S32 main_cst_7
  let main_v37 : IVec S32 1 := cmpf .oeq main_arg2 main_v36
  fn_part2 (F := F) main_arg3 main_arg4 main_arg6 main_arg7 main_arg8 main_v20 main_v28 main_v35 main_v37

def fn {F : FTy → Type} [FloatOps F] (main_arg0 : FVec F S8x4096x32x6 .f32) (main_arg1 : FVec F S32x3x1x1 .f32) (main_arg2 : FVec F S32 .f32) (main_arg3 : FVec F S32 .f32) (main_arg4 : FVec F S32 .f32) (main_arg5 : FVec F S64x32x4x4 .f32) (main_arg6 : FVec F S64 .f32) (main_arg7 : FVec F S64 .f32) (main_arg8 : FVec F S64 .f32) : IVec S_ 1 :=
  let main_v0 : FVec F S8x4096x32x1 .f32 := (extractStridedSlice S8x4096x32x1 ![0, 0, 0, 0] · slices_S8x4096x32x6_S8x4096x32x1_0_0_0_0) main_arg0
  let main_v1 : FVec F S8x4096x32 .f32 := shapeCast S8x4096x32 main_v0 shapeCasts_S8x4096x32x1_S8x4096x32
  let main_v2 : FVec F S8x4096x32x1 .f32 := (extractStridedSlice S8x4096x32x1 ![0, 0, 0, 1] · slices_S8x4096x32x6_S8x4096x32x1_0_0_0_1) main_arg0
  let main_v3 : FVec F S8x4096x32 .f32 := shapeCast S8x4096x32 main_v2 shapeCasts_S8x4096x32x1_S8x4096x32
  let main_v4 : FVec F S8x4096x32x1 .f32 := (extractStridedSlice S8x4096x32x1 ![0, 0, 0, 3] · slices_S8x4096x32x6_S8x4096x32x1_0_0_0_3) main_arg0
  let main_v5 : FVec F S8x4096x32 .f32 := shapeCast S8x4096x32 main_v4 shapeCasts_S8x4096x32x1_S8x4096x32
  let main_v6 : FVec F S8x4096x32x1 .f32 := (extractStridedSlice S8x4096x32x1 ![0, 0, 0, 5] · slices_S8x4096x32x6_S8x4096x32x1_0_0_0_5) main_arg0
  let main_v7 : FVec F S8x4096x32 .f32 := shapeCast S8x4096x32 main_v6 shapeCasts_S8x4096x32x1_S8x4096x32
  let main_v8 : FVec F S8x4096x32 .f32 := Host.absf main_v1
  let main_cst : FVec F S_ .f32 := constant S_ .f32 0x7F800000#32
  let main_v9 : FVec F S8x4096x32 .f32 := broadcastInDim S8x4096x32 ![] bcast_S_S8x4096x32 main_cst
  let main_v10 : IVec S8x4096x32 1 := cmpf .olt main_v8 main_v9
  let main_v11 : FVec F S8x4096x32 .f32 := Host.absf main_v3
  let main_cst_0 : FVec F S_ .f32 := constant S_ .f32 0x7F800000#32
  let main_v12 : FVec F S8x4096x32 .f32 := broadcastInDim S8x4096x32 ![] bcast_S_S8x4096x32 main_cst_0
  let main_v13 : IVec S8x4096x32 1 := cmpf .olt main_v11 main_v12
  let main_v14 : IVec S8x4096x32 1 := andi main_v10 main_v13
  let main_cst_1 : FVec F S_ .f32 := constant S_ .f32 0x7F800000#32
  let main_v15 : FVec F S8x4096x32 .f32 := broadcastInDim S8x4096x32 ![] bcast_S_S8x4096x32 main_cst_1
  let main_v16 : IVec S8x4096x32 1 := cmpf .olt main_v5 main_v15
  let main_v17 : IVec S8x4096x32 1 := andi main_v14 main_v16
  let main_cst_2 : FVec F S_ .f32 := constant S_ .f32 0x7F800000#32
  let main_v18 : FVec F S8x4096x32 .f32 := broadcastInDim S8x4096x32 ![] bcast_S_S8x4096x32 main_cst_2
  let main_v19 : IVec S8x4096x32 1 := cmpf .olt main_v7 main_v18
  fn_part1 (F := F) main_arg2 main_arg3 main_arg4 main_arg6 main_arg7 main_arg8 main_v1 main_v3 main_v5 main_v7 main_v17 main_v19
-- ==== Kernel.lean ====
abbrev S8x4096x32x6 : Shape := ⟨4, ![8, 4096, 32, 6]⟩
abbrev S32x3x1x1 : Shape := ⟨4, ![32, 3, 1, 1]⟩
abbrev S32 : Shape := ⟨1, ![32]⟩
abbrev S64x32x4x4 : Shape := ⟨4, ![64, 32, 4, 4]⟩
abbrev S64 : Shape := ⟨1, ![64]⟩
abbrev S8x6x32x4096 : Shape := ⟨4, ![8, 6, 32, 4096]⟩
abbrev S32x3 : Shape := ⟨2, ![32, 3]⟩
abbrev S16x16 : Shape := ⟨2, ![16, 16]⟩
abbrev S_ : Shape := ⟨0, ![]⟩
abbrev S32x1x3x1 : Shape := ⟨4, ![32, 1, 3, 1]⟩
abbrev S1x16x1x16 : Shape := ⟨4, ![1, 16, 1, 16]⟩
abbrev S32x16x3x16 : Shape := ⟨4, ![32, 16, 3, 16]⟩
abbrev S512x48 : Shape := ⟨2, ![512, 48]⟩
abbrev S8x64x48 : Shape := ⟨3, ![8, 64, 48]⟩
abbrev S8x48 : Shape := ⟨2, ![8, 48]⟩
abbrev S8x1x48 : Shape := ⟨3, ![8, 1, 48]⟩
abbrev S8x8x512 : Shape := ⟨3, ![8, 8, 512]⟩
abbrev S8x512 : Shape := ⟨2, ![8, 512]⟩
abbrev S8x1x512 : Shape := ⟨3, ![8, 1, 512]⟩
abbrev S64x512 : Shape := ⟨2, ![64, 512]⟩
abbrev S8x4096x64 : Shape := ⟨3, ![8, 4096, 64]⟩
abbrev S1x6x32x4096 : Shape := ⟨4, ![1, 6, 32, 4096]⟩
abbrev S1x4096x64 : Shape := ⟨3, ![1, 4096, 64]⟩
abbrev S1x1x32x4096 : Shape := ⟨4, ![1, 1, 32, 4096]⟩
abbrev S32x4096 : Shape := ⟨2, ![32, 4096]⟩
abbrev S4096 : Shape := ⟨1, ![4096]⟩
abbrev S1x4096 : Shape := ⟨2, ![1, 4096]⟩
abbrev S48x4096 : Shape := ⟨2, ![48, 4096]⟩
abbrev S512x4096 : Shape := ⟨2, ![512, 4096]⟩
abbrev S8x64x4096 : Shape := ⟨3, ![8, 64, 4096]⟩
abbrev S8x4096 : Shape := ⟨2, ![8, 4096]⟩
abbrev S8x1x4096 : Shape := ⟨3, ![8, 1, 4096]⟩
abbrev S64x4096 : Shape := ⟨2, ![64, 4096]⟩
abbrev S8x8x4096 : Shape := ⟨3, ![8, 8, 4096]⟩
abbrev S4096x64 : Shape := ⟨2, ![4096, 64]⟩

abbrev nBuf : Space → Nat
  | .hbm => 45
  | .vmem => 6
  | .smem => 0
  | _ => 0

abbrev bufTy : (tb : Table) → Fin (tcTables nBuf tb) → BufTy
  | .hbm, ⟨0, _⟩ => ⟨S8x4096x32x6, .f32⟩
  | .hbm, ⟨1, _⟩ => ⟨S32x3x1x1, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64x32x4x4, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S8x6x32x4096, .f32⟩
  | .hbm, ⟨10, _⟩ => ⟨S32x3, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S32x1x3x1, .f32⟩
  | .hbm, ⟨19, _⟩ => ⟨S1x16x1x16, .f32⟩
  | .hbm, ⟨20, _⟩ => ⟨S32x16x3x16, .f32⟩
  | .hbm, ⟨21, _⟩ => ⟨S32x16x3x16, .f32⟩
  | .hbm, ⟨22, _⟩ => ⟨S32x16x3x16, .f32⟩
  | .hbm, ⟨23, _⟩ => ⟨S512x48, .f32⟩
  | .hbm, ⟨24, _⟩ => ⟨S8x64x48, .f32⟩
  | .hbm, ⟨25, _⟩ => ⟨S_, .f32⟩
  | .hbm, ⟨26, _⟩ => ⟨S8x48, .f32⟩
  | .hbm, ⟨27, _⟩ => ⟨S8x1x48, .f32⟩
  | .hbm, ⟨28, _⟩ => ⟨S_, .f32⟩
  | .hbm, ⟨29, _⟩ => ⟨S8x1x48, .f32⟩
  | .hbm, ⟨30, _⟩ => ⟨S8x1x48, .f32⟩
  | .hbm, ⟨31, _⟩ => ⟨S8x64x48, .f32⟩
  | .hbm, ⟨32, _⟩ => ⟨S8x64x48, .f32⟩
  | .hbm, ⟨33, _⟩ => ⟨S512x48, .f32⟩
  | .hbm, ⟨34, _⟩ => ⟨S8x8x512, .f32⟩
  | .hbm, ⟨35, _⟩ => ⟨S_, .f32⟩
  | .hbm, ⟨36, _⟩ => ⟨S8x512, .f32⟩
  | .hbm, ⟨37, _⟩ => ⟨S8x1x512, .f32⟩
  | .hbm, ⟨38, _⟩ => ⟨S_, .f32⟩
  | .hbm, ⟨39, _⟩ => ⟨S8x1x512, .f32⟩
  | .hbm, ⟨40, _⟩ => ⟨S8x1x512, .f32⟩
  | .hbm, ⟨41, _⟩ => ⟨S8x8x512, .f32⟩
  | .hbm, ⟨42, _⟩ => ⟨S8x8x512, .f32⟩
  | .hbm, ⟨43, _⟩ => ⟨S64x512, .f32⟩
  | .hbm, ⟨44, _⟩ => ⟨S8x4096x64, .f32⟩
  | .local _ .vmem, ⟨0, _⟩ => ⟨S1x6x32x4096, .f32⟩
  | .local _ .vmem, ⟨1, _⟩ => ⟨S1x6x32x4096, .f32⟩
  | .local _ .vmem, ⟨2, _⟩ => ⟨S512x48, .f32⟩
  | .local _ .vmem, ⟨3, _⟩ => ⟨S64x512, .f32⟩
  | .local _ .vmem, ⟨4, _⟩ => ⟨S1x4096x64, .f32⟩
  | .local _ .vmem, ⟨5, _⟩ => ⟨S1x4096x64, .f32⟩
  | _, _ => ⟨S8x4096x32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x32x6 : Shape := ⟨4, ![8, 4096, 32, 6]⟩
abbrev S32x3x1x1 : Shape := ⟨4, ![32, 3, 1, 1]⟩
abbrev S32 : Shape := ⟨1, ![32]⟩
abbrev S64x32x4x4 : Shape := ⟨4, ![64, 32, 4, 4]⟩
abbrev S64 : Shape := ⟨1, ![64]⟩
abbrev S8x4096x32x1 : Shape := ⟨4, ![8, 4096, 32, 1]⟩
abbrev S8x4096x32 : Shape := ⟨3, ![8, 4096, 32]⟩
abbrev S_ : Shape := ⟨0, ![]⟩
abbrev S8x4096 : Shape := ⟨2, ![8, 4096]⟩
abbrev S8x4096x1 : Shape := ⟨3, ![8, 4096, 1]⟩
abbrev S8 : Shape := ⟨1, ![8]⟩
abbrev S8x1x1 : Shape := ⟨3, ![8, 1, 1]⟩
abbrev S4096 : Shape := ⟨1, ![4096]⟩
abbrev S1x4096x1 : Shape := ⟨3, ![1, 4096, 1]⟩
abbrev S8x4096x16 : Shape := ⟨3, ![8, 4096, 16]⟩
abbrev S8x4096x32x3 : Shape := ⟨4, ![8, 4096, 32, 3]⟩
abbrev S16 : Shape := ⟨1, ![16]⟩
abbrev S1x1x1x16 : Shape := ⟨4, ![1, 1, 1, 16]⟩
abbrev S8x4096x32x16 : Shape := ⟨4, ![8, 4096, 32, 16]⟩
abbrev S8x4096x1x16 : Shape := ⟨4, ![8, 4096, 1, 16]⟩
abbrev S8x4096x3x16 : Shape := ⟨4, ![8, 4096, 3, 16]⟩
abbrev S32768x3x4x4 : Shape := ⟨4, ![32768, 3, 4, 4]⟩
abbrev S32x3 : Shape := ⟨2, ![32, 3]⟩
abbrev S32768x4x4x32 : Shape := ⟨4, ![32768, 4, 4, 32]⟩
abbrev S32768x32x4x4 : Shape := ⟨4, ![32768, 32, 4, 4]⟩
abbrev S1x32x1x1 : Shape := ⟨4, ![1, 32, 1, 1]⟩
abbrev S32768x8x4x4x4 : Shape := ⟨5, ![32768, 8, 4, 4, 4]⟩
abbrev S32768x8 : Shape := ⟨2, ![32768, 8]⟩
abbrev S32768x8x1x1x1 : Shape := ⟨5, ![32768, 8, 1, 1, 1]⟩
abbrev S32768x64 : Shape := ⟨2, ![32768, 64]⟩
abbrev S32768x64x1x1 : Shape := ⟨4, ![32768, 64, 1, 1]⟩
abbrev S1x64x1x1 : Shape := ⟨4, ![1, 64, 1, 1]⟩
abbrev S32768x8x8x1x1 : Shape := ⟨5, ![32768, 8, 8, 1, 1]⟩
abbrev S8x4096x64 : Shape := ⟨3, ![8, 4096, 64]⟩

abbrev nBuf : Space → Nat
  | .hbm => 306
  | .vmem => 0
  | .smem => 0
  | _ => 0

abbrev hbmTy0_0 (i : Nat) : BufTy := match i % 128 with
  | 0 => ⟨S8x4096x32x6, .f32⟩
  | 1 => ⟨S32x3x1x1, .f32⟩
  | 2 => ⟨S32, .f32⟩
  | 3 => ⟨S32, .f32⟩
  | 4 => ⟨S32, .f32⟩
  | 5 => ⟨S64x32x4x4, .f32⟩
  | 6 => ⟨S64, .f32⟩
  | 7 => ⟨S64, .f32⟩
  | 8 => ⟨S64, .f32⟩
  | 9 => ⟨S8x4096x32x1, .f32⟩
  | 10 => ⟨S8x4096x32, .f32⟩
  | 11 => ⟨S8x4096x32x1, .f32⟩
  | 12 => ⟨S8x4096x32, .f32⟩
  | 13 => ⟨S8x4096x32x1, .f32⟩
  | 14 => ⟨S8x4096x32, .f32⟩
  | 15 => ⟨S8x4096x32x1, .f32⟩
  | 16 => ⟨S8x4096x32, .f32⟩
  | 17 => ⟨S8x4096x32, .f32⟩
  | 18 => ⟨S8x4096x32, .f32⟩
  | 19 => ⟨S_, .f32⟩
  | 20 => ⟨S8x4096x32, .f32⟩
  | 21 => ⟨S8x4096x32, .i1⟩
  | 22 => ⟨S_, .f32⟩
  | 23 => ⟨S8x4096x32, .f32⟩
  | 24 => ⟨S8x4096x32, .i1⟩
  | 25 => ⟨S8x4096x32, .i1⟩
  | 26 => ⟨S8x4096x32, .f32⟩
  | 27 => ⟨S8x4096x32, .f32⟩
  | 28 => ⟨S_, .f32⟩
  | 29 => ⟨S8x4096x32, .f32⟩
  | 30 => ⟨S8x4096x32, .i1⟩
  | 31 => ⟨S_, .f32⟩
  | 32 => ⟨S8x4096x32, .f32⟩
  | 33 => ⟨S8x4096x32, .i1⟩
  | 34 => ⟨S_, .f32⟩
  | 35 => ⟨S8x4096x32, .f32⟩
  | 36 => ⟨S8x4096x32, .f32⟩
  | 37 => ⟨S8x4096x32, .f32⟩
  | 38 => ⟨S8x4096x32, .f32⟩
  | 39 => ⟨S_, .f32⟩
  | 40 => ⟨S8x4096x32, .f32⟩
  | 41 => ⟨S8x4096x32, .f32⟩
  | 42 => ⟨S8x4096x32, .f32⟩
  | 43 => ⟨S8x4096x32, .f32⟩
  | 44 => ⟨S8x4096x32, .f32⟩
  | 45 => ⟨S_, .f32⟩
  | 46 => ⟨S8x4096x32, .f32⟩
  | 47 => ⟨S8x4096x32, .f32⟩
  | 48 => ⟨S8x4096x32, .f32⟩
  | 49 => ⟨S_, .f32⟩
  | 50 => ⟨S8x4096, .f32⟩
  | 51 => ⟨S_, .f32⟩
  | 52 => ⟨S8x4096, .f32⟩
  | 53 => ⟨S_, .f32⟩
  | 54 => ⟨S8x4096, .f32⟩
  | 55 => ⟨S_, .f32⟩
  | 56 => ⟨S8x4096, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S_, .f32⟩
  | 63 => ⟨S8x4096, .f32⟩
  | 64 => ⟨S8x4096, .f32⟩
  | 65 => ⟨S_, .f32⟩
  | 66 => ⟨S8x4096, .f32⟩
  | 67 => ⟨S8x4096, .i1⟩
  | 68 => ⟨S_, .f32⟩
  | 69 => ⟨S_, .f32⟩
  | 70 => ⟨S8x4096, .f32⟩
  | 71 => ⟨S8x4096, .f32⟩
  | 72 => ⟨S_, .f32⟩
  | 73 => ⟨S8x4096, .f32⟩
  | 74 => ⟨S8x4096, .i1⟩
  | 75 => ⟨S_, .f32⟩
  | 76 => ⟨S_, .f32⟩
  | 77 => ⟨S8x4096, .f32⟩
  | 78 => ⟨S8x4096, .f32⟩
  | 79 => ⟨S8x4096x1, .f32⟩
  | 80 => ⟨S8x4096x32, .f32⟩
  | 81 => ⟨S8x4096x32, .f32⟩
  | 82 => ⟨S8x4096x1, .f32⟩
  | 83 => ⟨S8x4096x32, .f32⟩
  | 84 => ⟨S8x4096x32, .f32⟩
  | 85 => ⟨S8x4096x32, .f32⟩
  | 86 => ⟨S8x4096x32, .i32⟩
  | 87 => ⟨S8x4096x1, .f32⟩
  | 88 => ⟨S8x4096x32, .f32⟩
  | 89 => ⟨S8x4096x32, .f32⟩
  | 90 => ⟨S8x4096x1, .f32⟩
  | 91 => ⟨S8x4096x32, .f32⟩
  | 92 => ⟨S8x4096x32, .f32⟩
  | 93 => ⟨S8x4096x32, .f32⟩
  | 94 => ⟨S8x4096x32, .i32⟩
  | 95 => ⟨S_, .i32⟩
  | 96 => ⟨S8x4096x32, .i32⟩
  | 97 => ⟨S8x4096x32, .i1⟩
  | 98 => ⟨S_, .i32⟩
  | 99 => ⟨S_, .i32⟩
  | 100 => ⟨S8x4096x32, .i32⟩
  | 101 => ⟨S8x4096x32, .i32⟩
  | 102 => ⟨S_, .i32⟩
  | 103 => ⟨S_, .i32⟩
  | 104 => ⟨S_, .i32⟩
  | 105 => ⟨S8x4096x32, .i32⟩
  | 106 => ⟨S8x4096x32, .i32⟩
  | 107 => ⟨S_, .i32⟩
  | 108 => ⟨S8x4096x32, .i32⟩
  | 109 => ⟨S8x4096x32, .i32⟩
  | 110 => ⟨S_, .i32⟩
  | 111 => ⟨S8x4096x32, .i32⟩
  | 112 => ⟨S8x4096x32, .i1⟩
  | 113 => ⟨S_, .i32⟩
  | 114 => ⟨S_, .i32⟩
  | 115 => ⟨S8x4096x32, .i32⟩
  | 116 => ⟨S8x4096x32, .i32⟩
  | 117 => ⟨S_, .i32⟩
  | 118 => ⟨S_, .i32⟩
  | 119 => ⟨S_, .i32⟩
  | 120 => ⟨S8x4096x32, .i32⟩
  | 121 => ⟨S8x4096x32, .i32⟩
  | 122 => ⟨S_, .i32⟩
  | 123 => ⟨S8x4096x32, .i32⟩
  | 124 => ⟨S8x4096x32, .i32⟩
  | 125 => ⟨S_, .i32⟩
  | 126 => ⟨S8x4096x32, .i32⟩
  | 127 => ⟨S8x4096x32, .i32⟩
  | _ => ⟨S8x4096x32x6, .f32⟩

abbrev hbmTy0_1 (i : Nat) : BufTy := match i % 128 with
  | 0 => ⟨S8x4096x32, .i32⟩
  | 1 => ⟨S8, .i32⟩
  | 2 => ⟨S8x1x1, .i32⟩
  | 3 => ⟨S8x4096x32, .i32⟩
  | 4 => ⟨S4096, .i32⟩
  | 5 => ⟨S1x4096x1, .i32⟩
  | 6 => ⟨S8x4096x32, .i32⟩
  | 7 => ⟨S_, .f32⟩
  | 8 => ⟨S8x4096x16, .f32⟩
  | 9 => ⟨S_, .i32⟩
  | 10 => ⟨S8x4096x32, .i32⟩
  | 11 => ⟨S8x4096x32, .i1⟩
  | 12 => ⟨S_, .i32⟩
  | 13 => ⟨S8x4096x32, .i32⟩
  | 14 => ⟨S8x4096x32, .i32⟩
  | 15 => ⟨S8x4096x32, .i32⟩
  | 16 => ⟨S_, .i32⟩
  | 17 => ⟨S8x4096x32, .i32⟩
  | 18 => ⟨S8x4096x32, .i1⟩
  | 19 => ⟨S_, .i32⟩
  | 20 => ⟨S8x4096x32, .i32⟩
  | 21 => ⟨S8x4096x32, .i32⟩
  | 22 => ⟨S8x4096x32, .i32⟩
  | 23 => ⟨S_, .i32⟩
  | 24 => ⟨S8x4096x32, .i32⟩
  | 25 => ⟨S8x4096x32, .i1⟩
  | 26 => ⟨S_, .i32⟩
  | 27 => ⟨S8x4096x32, .i32⟩
  | 28 => ⟨S8x4096x32, .i32⟩
  | 29 => ⟨S8x4096x32, .i32⟩
  | 30 => ⟨S8x4096x32x1, .i32⟩
  | 31 => ⟨S8x4096x32x1, .i32⟩
  | 32 => ⟨S8x4096x32x1, .i32⟩
  | 33 => ⟨S8x4096x32x3, .i32⟩
  | 34 => ⟨S_, .f32⟩
  | 35 => ⟨S8x4096x32, .f32⟩
  | 36 => ⟨S8x4096x16, .f32⟩
  | 37 => ⟨S8x4096x32x1, .i32⟩
  | 38 => ⟨S16, .i32⟩
  | 39 => ⟨S1x1x1x16, .i32⟩
  | 40 => ⟨S8x4096x32x16, .i32⟩
  | 41 => ⟨S8x4096x32x16, .i32⟩
  | 42 => ⟨S8x4096x32x16, .i1⟩
  | 43 => ⟨S8x4096x32x1, .f32⟩
  | 44 => ⟨S8x4096x32x16, .f32⟩
  | 45 => ⟨S_, .f32⟩
  | 46 => ⟨S8x4096x32x16, .f32⟩
  | 47 => ⟨S8x4096x32x16, .f32⟩
  | 48 => ⟨S_, .f32⟩
  | 49 => ⟨S8x4096x16, .f32⟩
  | 50 => ⟨S_, .f32⟩
  | 51 => ⟨S8x4096x16, .f32⟩
  | 52 => ⟨S8x4096x16, .f32⟩
  | 53 => ⟨S8x4096x32x1, .f32⟩
  | 54 => ⟨S8x4096x32x16, .f32⟩
  | 55 => ⟨S_, .f32⟩
  | 56 => ⟨S8x4096x32x16, .f32⟩
  | 57 => ⟨S8x4096x32x16, .f32⟩
  | 58 => ⟨S_, .f32⟩
  | 59 => ⟨S8x4096x16, .f32⟩
  | 60 => ⟨S_, .f32⟩
  | 61 => ⟨S8x4096x16, .f32⟩
  | 62 => ⟨S8x4096x16, .f32⟩
  | 63 => ⟨S8x4096x1x16, .f32⟩
  | 64 => ⟨S8x4096x1x16, .f32⟩
  | 65 => ⟨S8x4096x1x16, .f32⟩
  | 66 => ⟨S8x4096x3x16, .f32⟩
  | 67 => ⟨S32768x3x4x4, .f32⟩
  | 68 => ⟨S32x3, .f32⟩
  | 69 => ⟨S32768x4x4x32, .f32⟩
  | 70 => ⟨S32768x32x4x4, .f32⟩
  | 71 => ⟨S1x32x1x1, .f32⟩
  | 72 => ⟨S32768x32x4x4, .f32⟩
  | 73 => ⟨S32768x32x4x4, .f32⟩
  | 74 => ⟨S32768x8x4x4x4, .f32⟩
  | 75 => ⟨S_, .f32⟩
  | 76 => ⟨S32768x8, .f32⟩
  | 77 => ⟨S32768x8x1x1x1, .f32⟩
  | 78 => ⟨S_, .f32⟩
  | 79 => ⟨S32768x8x1x1x1, .f32⟩
  | 80 => ⟨S32768x8x1x1x1, .f32⟩
  | 81 => ⟨S_, .i32⟩
  | 82 => ⟨S_, .f32⟩
  | 83 => ⟨S32768x8, .f32⟩
  | 84 => ⟨S32768x8x1x1x1, .f32⟩
  | 85 => ⟨S_, .f32⟩
  | 86 => ⟨S32768x8x1x1x1, .f32⟩
  | 87 => ⟨S32768x8x1x1x1, .f32⟩
  | 88 => ⟨S32768x8x4x4x4, .f32⟩
  | 89 => ⟨S32768x8x4x4x4, .f32⟩
  | 90 => ⟨S32768x8x4x4x4, .f32⟩
  | 91 => ⟨S_, .f32⟩
  | 92 => ⟨S_, .f32⟩
  | 93 => ⟨S_, .f32⟩
  | 94 => ⟨S_, .f32⟩
  | 95 => ⟨S32768x8, .f32⟩
  | 96 => ⟨S32768x8x1x1x1, .f32⟩
  | 97 => ⟨S32768x8x1x1x1, .f32⟩
  | 98 => ⟨S32768x8x1x1x1, .f32⟩
  | 99 => ⟨S_, .f32⟩
  | 100 => ⟨S_, .i1⟩
  | 101 => ⟨S_, .f32⟩
  | 102 => ⟨S_, .f32⟩
  | 103 => ⟨S32768x8x1x1x1, .f32⟩
  | 104 => ⟨S32768x8x1x1x1, .f32⟩
  | 105 => ⟨S32768x8x4x4x4, .f32⟩
  | 106 => ⟨S32768x8x4x4x4, .f32⟩
  | 107 => ⟨S_, .f32⟩
  | 108 => ⟨S32768x8x1x1x1, .f32⟩
  | 109 => ⟨S32768x8x1x1x1, .f32⟩
  | 110 => ⟨S32768x8x1x1x1, .f32⟩
  | 111 => ⟨S32768x8x4x4x4, .f32⟩
  | 112 => ⟨S32768x8x4x4x4, .f32⟩
  | 113 => ⟨S32768x32x4x4, .f32⟩
  | 114 => ⟨S1x32x1x1, .f32⟩
  | 115 => ⟨S32768x32x4x4, .f32⟩
  | 116 => ⟨S32768x32x4x4, .f32⟩
  | 117 => ⟨S1x32x1x1, .f32⟩
  | 118 => ⟨S32768x32x4x4, .f32⟩
  | 119 => ⟨S32768x32x4x4, .f32⟩
  | 120 => ⟨S_, .f32⟩
  | 121 => ⟨S32768x32x4x4, .f32⟩
  | 122 => ⟨S32768x32x4x4, .f32⟩
  | 123 => ⟨S32768x64, .f32⟩
  | 124 => ⟨S32768x64x1x1, .f32⟩
  | 125 => ⟨S1x64x1x1, .f32⟩
  | 126 => ⟨S32768x64x1x1, .f32⟩
  | 127 => ⟨S32768x64x1x1, .f32⟩
  | _ => ⟨S8x4096x32x6, .f32⟩

abbrev hbmTy0_2 (i : Nat) : BufTy := match i % 128 with
  | 0 => ⟨S32768x8x8x1x1, .f32⟩
  | 1 => ⟨S_, .f32⟩
  | 2 => ⟨S32768x8, .f32⟩
  | 3 => ⟨S32768x8x1x1x1, .f32⟩
  | 4 => ⟨S_, .f32⟩
  | 5 => ⟨S32768x8x1x1x1, .f32⟩
  | 6 => ⟨S32768x8x1x1x1, .f32⟩
  | 7 => ⟨S_, .i32⟩
  | 8 => ⟨S_, .f32⟩
  | 9 => ⟨S32768x8, .f32⟩
  | 10 => ⟨S32768x8x1x1x1, .f32⟩
  | 11 => ⟨S_, .f32⟩
  | 12 => ⟨S32768x8x1x1x1, .f32⟩
  | 13 => ⟨S32768x8x1x1x1, .f32⟩
  | 14 => ⟨S32768x8x8x1x1, .f32⟩
  | 15 => ⟨S32768x8x8x1x1, .f32⟩
  | 16 => ⟨S32768x8x8x1x1, .f32⟩
  | 17 => ⟨S_, .f32⟩
  | 18 => ⟨S_, .f32⟩
  | 19 => ⟨S_, .f32⟩
  | 20 => ⟨S_, .f32⟩
  | 21 => ⟨S32768x8, .f32⟩
  | 22 => ⟨S32768x8x1x1x1, .f32⟩
  | 23 => ⟨S32768x8x1x1x1, .f32⟩
  | 24 => ⟨S32768x8x1x1x1, .f32⟩
  | 25 => ⟨S_, .f32⟩
  | 26 => ⟨S_, .i1⟩
  | 27 => ⟨S_, .f32⟩
  | 28 => ⟨S_, .f32⟩
  | 29 => ⟨S32768x8x1x1x1, .f32⟩
  | 30 => ⟨S32768x8x1x1x1, .f32⟩
  | 31 => ⟨S32768x8x8x1x1, .f32⟩
  | 32 => ⟨S32768x8x8x1x1, .f32⟩
  | 33 => ⟨S_, .f32⟩
  | 34 => ⟨S32768x8x1x1x1, .f32⟩
  | 35 => ⟨S32768x8x1x1x1, .f32⟩
  | 36 => ⟨S32768x8x1x1x1, .f32⟩
  | 37 => ⟨S32768x8x8x1x1, .f32⟩
  | 38 => ⟨S32768x8x8x1x1, .f32⟩
  | 39 => ⟨S32768x64x1x1, .f32⟩
  | 40 => ⟨S1x64x1x1, .f32⟩
  | 41 => ⟨S32768x64x1x1, .f32⟩
  | 42 => ⟨S32768x64x1x1, .f32⟩
  | 43 => ⟨S1x64x1x1, .f32⟩
  | 44 => ⟨S32768x64x1x1, .f32⟩
  | 45 => ⟨S32768x64x1x1, .f32⟩
  | 46 => ⟨S_, .f32⟩
  | 47 => ⟨S32768x64x1x1, .f32⟩
  | 48 => ⟨S32768x64x1x1, .f32⟩
  | 49 => ⟨S8x4096x64, .f32⟩
  | _ => ⟨S8x4096x32x6, .f32⟩

abbrev hbmTy (i : Nat) : BufTy := match i / 128 with
  | 0 => hbmTy0_0 i
  | 1 => hbmTy0_1 i
  | 2 => hbmTy0_2 i
  | _ => ⟨S8x4096x32x6, .f32⟩

abbrev bufTy : (tb : Table) → Fin (tcTables nBuf tb) → BufTy
  | .hbm, ⟨i, _⟩ => hbmTy i
  | _, _ => ⟨S8x4096x32x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_cst_1 : Ref sig .tc := ⟨.hbm, 28, rfl⟩
abbrev main_call0_v9 : Ref sig .tc := ⟨.hbm, 29, rfl⟩
abbrev main_call0_v10 : Ref sig .tc := ⟨.hbm, 30, rfl⟩
abbrev main_call0_cst_2 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_cst_4 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_cst_5 : Ref sig .tc := ⟨.hbm, 45, rfl⟩
abbrev main_call0_call2_v0 : Ref sig .tc := ⟨.hbm, 46, rfl⟩
abbrev main_v8 : Ref sig .tc := ⟨.hbm, 47, rfl⟩
abbrev main_v9 : Ref sig .tc := ⟨.hbm, 48, rfl⟩
abbrev main_cst : Ref sig .tc := ⟨.hbm, 49, rfl⟩
abbrev main_v10 : Ref sig .tc := ⟨.hbm, 50, rfl⟩
abbrev main_cst_0 : Ref sig .tc := ⟨.hbm, 51, rfl⟩
abbrev main_v11 : Ref sig .tc := ⟨.hbm, 52, rfl⟩
abbrev main_cst_1 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_cst_3 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_4 : Ref sig .tc := ⟨.hbm, 62, rfl⟩
abbrev main_v18 : Ref sig .tc := ⟨.hbm, 63, rfl⟩
abbrev main_v19 : Ref sig .tc := ⟨.hbm, 64, rfl⟩
abbrev main_cst_5 : Ref sig .tc := ⟨.hbm, 65, rfl⟩
abbrev main_v20 : Ref sig .tc := ⟨.hbm, 66, rfl⟩
abbrev main_v21 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_v22 : Ref sig .tc := ⟨.hbm, 71, rfl⟩
abbrev main_cst_7 : Ref sig .tc := ⟨.hbm, 72, rfl⟩
abbrev main_v23 : Ref sig .tc := ⟨.hbm, 73, rfl⟩
abbrev main_v24 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_c : Ref sig .tc := ⟨.hbm, 95, rfl⟩
abbrev main_v42 : Ref sig .tc := ⟨.hbm, 96, rfl⟩
abbrev main_v43 : Ref sig .tc := ⟨.hbm, 97, rfl⟩
abbrev main_c_9 : Ref sig .tc := ⟨.hbm, 98, rfl⟩
abbrev main_call3_v0 : Ref sig .tc := ⟨.hbm, 99, rfl⟩
abbrev main_call3_v1 : Ref sig .tc := ⟨.hbm, 100, rfl⟩
abbrev main_v44 : Ref sig .tc := ⟨.hbm, 101, rfl⟩
abbrev main_c_10 : Ref sig .tc := ⟨.hbm, 102, rfl⟩
abbrev main_c_11 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v45 : Ref sig .tc := ⟨.hbm, 109, rfl⟩
abbrev main_c_12 : Ref sig .tc := ⟨.hbm, 110, rfl⟩
abbrev main_v46 : Ref sig .tc := ⟨.hbm, 111, rfl⟩
abbrev main_v47 : Ref sig .tc := ⟨.hbm, 112, rfl⟩
abbrev main_c_13 : Ref sig .tc := ⟨.hbm, 113, rfl⟩
abbrev main_call5_v0 : Ref sig .tc := ⟨.hbm, 114, rfl⟩
abbrev main_call5_v1 : Ref sig .tc := ⟨.hbm, 115, rfl⟩
abbrev main_v48 : Ref sig .tc := ⟨.hbm, 116, rfl⟩
abbrev main_c_14 : Ref sig .tc := ⟨.hbm, 117, rfl⟩
abbrev main_c_15 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v49 : Ref sig .tc := ⟨.hbm, 124, rfl⟩
abbrev main_c_16 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_cst_17 : Ref sig .tc := ⟨.hbm, 135, rfl⟩
abbrev main_v59 : Ref sig .tc := ⟨.hbm, 136, rfl⟩
abbrev main_c_18 : Ref sig .tc := ⟨.hbm, 137, rfl⟩
abbrev main_v60 : Ref sig .tc := ⟨.hbm, 138, rfl⟩
abbrev main_v61 : Ref sig .tc := ⟨.hbm, 139, rfl⟩
abbrev main_c_19 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_c_20 : Ref sig .tc := ⟨.hbm, 144, rfl⟩
abbrev main_v65 : Ref sig .tc := ⟨.hbm, 145, rfl⟩
abbrev main_v66 : Ref sig .tc := ⟨.hbm, 146, rfl⟩
abbrev main_c_21 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_c_22 : Ref sig .tc := ⟨.hbm, 151, rfl⟩
abbrev main_v70 : Ref sig .tc := ⟨.hbm, 152, rfl⟩
abbrev main_v71 : Ref sig .tc := ⟨.hbm, 153, rfl⟩
abbrev main_c_23 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_24 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_cst_25 : Ref sig .tc := ⟨.hbm, 173, rfl⟩
abbrev main_call7_v0 : Ref sig .tc := ⟨.hbm, 174, rfl⟩
abbrev main_v89 : Ref sig .tc := ⟨.hbm, 175, rfl⟩
abbrev main_cst_26 : Ref sig .tc := ⟨.hbm, 176, rfl⟩
abbrev main_v90 : Ref sig .tc := ⟨.hbm, 177, rfl⟩
abbrev main_cst_27 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_cst_28 : Ref sig .tc := ⟨.hbm, 183, rfl⟩
abbrev main_call8_v0 : Ref sig .tc := ⟨.hbm, 184, rfl⟩
abbrev main_v95 : Ref sig .tc := ⟨.hbm, 185, rfl⟩
abbrev main_cst_29 : Ref sig .tc := ⟨.hbm, 186, rfl⟩
abbrev main_v96 : Ref sig .tc := ⟨.hbm, 187, rfl⟩
abbrev main_cst_30 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_cst_31 : Ref sig .tc := ⟨.hbm, 203, rfl⟩
abbrev main_v111 : Ref sig .tc := ⟨.hbm, 204, rfl⟩
abbrev main_v112 : Ref sig .tc := ⟨.hbm, 205, rfl⟩
abbrev main_cst_32 : Ref sig .tc := ⟨.hbm, 206, rfl⟩
abbrev main_v113 : Ref sig .tc := ⟨.hbm, 207, rfl⟩
abbrev main_v114 : Ref sig .tc := ⟨.hbm, 208, rfl⟩
abbrev main_c_33 : Ref sig .tc := ⟨.hbm, 209, rfl⟩
abbrev main_call9_cst : Ref sig .tc := ⟨.hbm, 210, rfl⟩
abbrev main_call9_v0 : Ref sig .tc := ⟨.hbm, 211, rfl⟩
abbrev main_call9_v1 : Ref sig .tc := ⟨.hbm, 212, rfl⟩
abbrev main_call9_cst_0 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_call9_v5 : Ref sig .tc := ⟨.hbm, 217, rfl⟩
abbrev main_call9_v6 : Ref sig .tc := ⟨.hbm, 218, rfl⟩
abbrev main_call9_v7 : Ref sig .tc := ⟨.hbm, 219, rfl⟩
abbrev main_call9_cst_1 : Ref sig .tc := ⟨.hbm, 220, rfl⟩
abbrev main_call9_v8 : Ref sig .tc := ⟨.hbm, 221, rfl⟩
abbrev main_call9_cst_2 : Ref sig .tc := ⟨.hbm, 222, rfl⟩
abbrev main_call9_v9 : Ref sig .tc := ⟨.hbm, 223, rfl⟩
abbrev main_call9_v10 : Ref sig .tc := ⟨.hbm, 224, rfl⟩
abbrev main_call9_v11 : Ref sig .tc := ⟨.hbm, 225, rfl⟩
abbrev main_call9_v12 : Ref sig .tc := ⟨.hbm, 226, rfl⟩
abbrev main_call9_cst_3 : Ref sig .tc := ⟨.hbm, 227, rfl⟩
abbrev main_call9_v13 : Ref sig .tc := ⟨.hbm, 228, rfl⟩
abbrev main_call9_cst_4 : Ref sig .tc := ⟨.hbm, 229, rfl⟩
abbrev main_call9_call0_v0 : Ref sig .tc := ⟨.hbm, 230, rfl⟩
abbrev main_call9_call0_v1 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_cst_34 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_call10_cst : Ref sig .tc := ⟨.hbm, 248, rfl⟩
abbrev main_call10_v0 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_cst_35 : Ref sig .tc := ⟨.hbm, 257, rfl⟩
abbrev main_v137 : Ref sig .tc := ⟨.hbm, 258, rfl⟩
abbrev main_v138 : Ref sig .tc := ⟨.hbm, 259, rfl⟩
abbrev main_cst_36 : Ref sig .tc := ⟨.hbm, 260, rfl⟩
abbrev main_v139 : Ref sig .tc := ⟨.hbm, 261, rfl⟩
abbrev main_v140 : Ref sig .tc := ⟨.hbm, 262, rfl⟩
abbrev main_c_37 : Ref sig .tc := ⟨.hbm, 263, rfl⟩
abbrev main_call11_cst : Ref sig .tc := ⟨.hbm, 264, rfl⟩
abbrev main_call11_v0 : Ref sig .tc := ⟨.hbm, 265, rfl⟩
abbrev main_call11_v1 : Ref sig .tc := ⟨.hbm, 266, rfl⟩
abbrev main_call11_cst_0 : Ref sig .tc := ⟨.hbm, 267, rfl⟩
abbrev main_call11_v2 : Ref sig .tc := ⟨.hbm, 268, rfl⟩
abbrev main_call11_v3 : Ref sig .tc := ⟨.hbm, 269, rfl⟩
abbrev main_call11_v4 : Ref sig .tc := ⟨.hbm, 270, rfl⟩
abbrev main_call11_v5 : Ref sig .tc := ⟨.hbm, 271, rfl⟩
abbrev main_call11_v6 : Ref sig .tc := ⟨.hbm, 272, rfl⟩
abbrev main_call11_v7 : Ref sig .tc := ⟨.hbm, 273, rfl⟩
abbrev main_call11_cst_1 : Ref sig .tc := ⟨.hbm, 274, rfl⟩
abbrev main_call11_v8 : Ref sig .tc := ⟨.hbm, 275, rfl⟩
abbrev main_call11_cst_2 : Ref sig .tc := ⟨.hbm, 276, rfl⟩
abbrev main_call11_v9 : Ref sig .tc := ⟨.hbm, 277, rfl⟩
abbrev main_call11_v10 : Ref sig .tc := ⟨.hbm, 278, rfl⟩
abbrev main_call11_v11 : Ref sig .tc := ⟨.hbm, 279, rfl⟩
abbrev main_call11_v12 : Ref sig .tc := ⟨.hbm, 280, rfl⟩
abbrev main_call11_cst_3 : Ref sig .tc := ⟨.hbm, 281, rfl⟩
abbrev main_call11_v13 : Ref sig .tc := ⟨.hbm, 282, rfl⟩
abbrev main_call11_cst_4 : Ref sig .tc := ⟨.hbm, 283, rfl⟩
abbrev main_call11_call0_v0 : Ref sig .tc := ⟨.hbm, 284, rfl⟩
abbrev main_call11_call0_v1 : Ref sig .tc := ⟨.hbm, 285, rfl⟩
abbrev main_v141 : Ref sig .tc := ⟨.hbm, 286, rfl⟩
abbrev main_v142 : Ref sig .tc := ⟨.hbm, 287, rfl⟩
abbrev main_v143 : Ref sig .tc := ⟨.hbm, 288, rfl⟩
abbrev main_cst_38 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_call12_cst : Ref sig .tc := ⟨.hbm, 302, rfl⟩
abbrev main_call12_v0 : Ref sig .tc := ⟨.hbm, 303, rfl⟩
abbrev main_v156 : Ref sig .tc := ⟨.hbm, 304, rfl⟩
abbrev main_v157 : Ref sig .tc := ⟨.hbm, 305, rfl⟩

abbrev nD : Nat := 1
abbrev τ : Topo := Topo.v7x

variable {F : FTy → Type} [FloatOps F]
-- ==== Proof.Pre.lean ====
module

public import proofs.«01_k».proof.Pre_drawn
public import Idealize.ShloMosaic.Lib.Pipeline.ValueKit
public import Idealize.ShloMosaic.Lib.Pointwise
public import Idealize.ShloMosaic.Lib.ReduceAll
public import Idealize.ShloMosaic.PureOps.Ideal

@[expose] public section

set_option maxRecDepth 16384

noncomputable section

/-! What the precondition says of the arrays. -/

namespace Cert.Proof.Pre

open Idealize.ShloMosaic
open Cert.Pre_drawn

/-- The side conditions of the precondition's operations: each is decided. -/
instance facts_drawn : Cert.Pre_drawn.Facts where
  slices_S8x4096x32x6_S8x4096x32x1_0_0_0_0 := by decide
  shapeCasts_S8x4096x32x1_S8x4096x32 := by decide
  slices_S8x4096x32x6_S8x4096x32x1_0_0_0_1 := by decide
  slices_S8x4096x32x6_S8x4096x32x1_0_0_0_3 := by decide
  slices_S8x4096x32x6_S8x4096x32x1_0_0_0_5 := by decide
  bcast_S_S8x4096x32 := by decide
  slices_S8x4096x32_S8x4096x1_0_0_0 := by decide
  bcast_S8x4096x1_S8x4096x32_0_1_2 := by decide
  reducesTo_S8x4096x32_S8x4096_d2 := by decide
  h_S_ := by decide
  bcast_S_S32 := by decide
  reducesTo_S32_S_d0 := by decide
  bcast_S_S64 := by decide
  reducesTo_S64_S_d0 := by decide
  reducesTo_S8x4096x32_S_d0_1_2 := by decide
  reducesTo_S8x4096_S_d0_1 := by decide

/-- The scalar shape has a single index. -/
instance : Subsingleton S_.Idx := ⟨fun _ _ => funext fun a => a.elim0⟩

/-- A disjunction folded over a list is one only if some entry is, or the start is. -/
theorem foldl_ori {ι : Type} (f : ι → BitVec 1) (l : List ι) (e : BitVec 1) (h : l.foldl (fun r i => IntOp.ori r (f i)) e = 1#1) :
    e = 1#1 ∨ ∃ i ∈ l, f i = 1#1 := by
  induction l generalizing e with
  | nil => exact .inl h
  | cons a l ih =>
    rcases ih _ h with h | ⟨i, hi, h⟩
    · rcases IntOp.ori_eq_one.1 h with h | h
      · exact .inl h
      · exact .inr ⟨a, List.mem_cons_self, h⟩
    · exact .inr ⟨i, List.mem_cons_of_mem _ hi, h⟩

/-- An "any" along the points of a group that holds gives a point at which its array is one. -/
theorem any_point (x : IVec S8x4096x32 1) (b : Fin 8) (m : Fin 4096)
    (h : Host.reduce IntOp.ori x (constantI S_ 1 0#1) Facts.reducesTo_S8x4096x32_S8x4096_d2 Facts.h_S_ (ix2 b m) = 1#1) :
    ∃ p : Fin 32, x (ix3 b m p) = 1#1 := by
  rw [Host.reduce_eq_foldl] at h
  rcases foldl_ori _ _ _ h with h | ⟨i, hi, h⟩
  · exact absurd h (by decide)
  · have hd := of_decide_eq_true (List.mem_filter.1 hi).2
    have e : i = ix3 b m (i 2) := by
      funext a
      fin_cases a
      · exact congrFun hd 0
      · exact congrFun hd 1
      · rfl
    exact ⟨i 2, e ▸ h⟩

/-- The word of the infinity is the top of the extended reals. -/
theorem infinity : Ideal.ofBits FTy.f32 2139095040#32 = ⊤ := by simp [Ideal.ofBits, Ideal.ieee, -EReal.coe_mul]

/-- The word of zero is zero. -/
theorem nought : Ideal.ofBits FTy.f32 0#32 = 0 := by simp [Ideal.ofBits, Ideal.ieee, -EReal.coe_mul]

/-- The word of one is one. -/
theorem unity : Ideal.ofBits FTy.f32 1065353216#32 = 1 := by
  simp [Ideal.ofBits, Ideal.ieee, -EReal.coe_mul]; norm_num

/-- An extended real whose absolute value is below the top is a real. -/
theorem real_of_absf (a : EReal) (h : max a (-a) < ⊤) : ∃ x : ℝ, a = x := by
  induction a using EReal.rec with
  | bot => simp at h
  | top => simp at h
  | coe x => exact ⟨x, rfl⟩

/-- A channel of the points, as the precondition cuts it out. -/
theorem channel0_at (x0 : FVec Ideal S8x4096x32x6 .f32) (b : Fin 8) (m : Fin 4096) (p : Fin 32) :
    shapeCast S8x4096x32 (extractStridedSlice S8x4096x32x1 ![0, 0, 0, 0] x0 Facts.slices_S8x4096x32x6_S8x4096x32x1_0_0_0_0)
      Facts.shapeCasts_S8x4096x32x1_S8x4096x32 (ix3 b m p) = x0 (ix4 b m p 0) := by pointwise

/-- The second channel. -/
theorem channel1_at (x0 : FVec Ideal S8x4096x32x6 .f32) (b : Fin 8) (m : Fin 4096) (p : Fin 32) :
    shapeCast S8x4096x32 (extractStridedSlice S8x4096x32x1 ![0, 0, 0, 1] x0 Facts.slices_S8x4096x32x6_S8x4096x32x1_0_0_0_1)
      Facts.shapeCasts_S8x4096x32x1_S8x4096x32 (ix3 b m p) = x0 (ix4 b m p 1) := by pointwise

/-- The fourth channel. -/
theorem channel3_at (x0 : FVec Ideal S8x4096x32x6 .f32) (b : Fin 8) (m : Fin 4096) (p : Fin 32) :
    shapeCast S8x4096x32 (extractStridedSlice S8x4096x32x1 ![0, 0, 0, 3] x0 Facts.slices_S8x4096x32x6_S8x4096x32x1_0_0_0_3)
      Facts.shapeCasts_S8x4096x32x1_S8x4096x32 (ix3 b m p) = x0 (ix4 b m p 3) := by pointwise

/-- The sixth channel. -/
theorem channel5_at (x0 : FVec Ideal S8x4096x32x6 .f32) (b : Fin 8) (m : Fin 4096) (p : Fin 32) :
    shapeCast S8x4096x32 (extractStridedSlice S8x4096x32x1 ![0, 0, 0, 5] x0 Facts.slices_S8x4096x32x6_S8x4096x32x1_0_0_0_5)
      Facts.shapeCasts_S8x4096x32x1_S8x4096x32 (ix3 b m p) = x0 (ix4 b m p 5) := by pointwise

/-- The first point of a group, repeated over the group. -/
theorem first_at (v : FVec Ideal S8x4096x32 .f32) (b : Fin 8) (m : Fin 4096) (p : Fin 32) :
    broadcastInDim S8x4096x32 ![0, 1, 2] Facts.bcast_S8x4096x1_S8x4096x32_0_1_2
      (extractStridedSlice S8x4096x1 ![0, 0, 0] v Facts.slices_S8x4096x32_S8x4096x1_0_0_0) (ix3 b m p) = v (ix3 b m 0) := by pointwise

/-- A word of a comparison that is one says the comparison holds. -/
theorem holds_of {P : Prop} [Decidable P] (h : BitVec.ofBool (decide P) = 1#1) : P := by
  by_contra hP
  rw [decide_eq_false hP] at h
  exact absurd h (by decide)

/-- What the precondition says of one group of points: its coordinates are real, its other two channels stay below the
infinity, and either two of its points lie apart or both channels reach zero. -/
structure Group (u v r s : Fin 32 → EReal) : Prop where
  /-- The first coordinate is real. -/
  first : ∃ X : Fin 32 → ℝ, ∀ p, u p = X p
  /-- The second coordinate is real. -/
  second : ∃ Y : Fin 32 → ℝ, ∀ p, v p = Y p
  /-- The third channel is below the infinity. -/
  third : ∀ p, r p < ⊤
  /-- The fourth channel is below the infinity. -/
  fourth : ∀ p, s p < ⊤
  /-- Two points lie apart, or both channels reach zero. -/
  spread : (∃ p, u p ≠ u 0 ∨ v p ≠ v 0) ∨ (∃ p, 0 ≤ r p) ∧ ∃ p, 0 ≤ s p

/-- The precondition read back: every group is as `Group` says, the biases and shifts are zero and the gains are one. -/
theorem of_drawn (x0 : FVec Ideal S8x4096x32x6 .f32) (x1 : FVec Ideal S32x3x1x1 .f32) (x2 x3 x4 : FVec Ideal S32 .f32)
    (x5 : FVec Ideal S64x32x4x4 .f32) (x6 x7 x8 : FVec Ideal S64 .f32)
    (h : Cert.Pre_drawn.fn (F := Ideal) x0 x1 x2 x3 x4 x5 x6 x7 x8 = fun _ => 1#1) :
    (∀ (b : Fin 8) (m : Fin 4096), Group (fun p => x0 (ix4 b m p 0)) (fun p => x0 (ix4 b m p 1))
      (fun p => x0 (ix4 b m p 3)) (fun p => x0 (ix4 b m p 5)))
    ∧ ((∀ i, x2 i = 0) ∧ (∀ i, x3 i = 1) ∧ ∀ i, x4 i = 0) ∧ (∀ i, x6 i = 0) ∧ (∀ i, x7 i = 1) ∧ ∀ i, x8 i = 0 := by
  have h0 := congrFun h ix0
  dsimp only [Cert.Pre_drawn.fn, fn_part1, fn_part2, fn_part3] at h0
  obtain ⟨h0, hg⟩ := IntOp.andi_eq_one.1 h0
  obtain ⟨h0, hz⟩ := IntOp.andi_eq_one.1 h0
  obtain ⟨hr, hs⟩ := IntOp.andi_eq_one.1 h0
  obtain ⟨hg3, hg7⟩ := IntOp.andi_eq_one.1 hg
  obtain ⟨hz, hz8⟩ := IntOp.andi_eq_one.1 hz
  obtain ⟨hz, hz6⟩ := IntOp.andi_eq_one.1 hz
  obtain ⟨hz2, hz4⟩ := IntOp.andi_eq_one.1 hz
  have zero32 (x : FVec Ideal S32 .f32) (i : S32.Idx)
      (h : cmpf .oeq x (broadcastInDim S32 ![] Facts.bcast_S_S32 (constant S_ .f32 0#32)) i = 1#1) : x i = 0 :=
    (holds_of (P := x i = Ideal.ofBits FTy.f32 0#32) h).trans nought
  have zero64 (x : FVec Ideal S64 .f32) (i : S64.Idx)
      (h : cmpf .oeq x (broadcastInDim S64 ![] Facts.bcast_S_S64 (constant S_ .f32 0#32)) i = 1#1) : x i = 0 :=
    (holds_of (P := x i = Ideal.ofBits FTy.f32 0#32) h).trans nought
  refine ⟨fun b m => ?_, ⟨fun i => zero32 x2 i (Host.reduce_andi_all _ _ _ _ _ hz2 i),
    fun i => (holds_of (P := x3 i = Ideal.ofBits FTy.f32 1065353216#32) (Host.reduce_andi_all _ _ _ _ _ hg3 i)).trans unity,
    fun i => zero32 x4 i (Host.reduce_andi_all _ _ _ _ _ hz4 i)⟩, fun i => zero64 x6 i (Host.reduce_andi_all _ _ _ _ _ hz6 i),
    fun i => (holds_of (P := x7 i = Ideal.ofBits FTy.f32 1065353216#32) (Host.reduce_andi_all _ _ _ _ _ hg7 i)).trans unity,
    fun i => zero64 x8 i (Host.reduce_andi_all _ _ _ _ _ hz8 i)⟩
  have hrange (p : Fin 32) := Host.reduce_andi_all _ _ _ _ _ hr (ix3 b m p)
  have hspread := Host.reduce_andi_all _ _ _ _ _ hs (ix2 b m)
  clear hz2 hz4 hz6 hz8 hg3 hg7 hr hs h h0 hz hg zero32 zero64
  have split (p : Fin 32) : (max (x0 (ix4 b m p 0)) (-x0 (ix4 b m p 0)) < ⊤ ∧ max (x0 (ix4 b m p 1)) (-x0 (ix4 b m p 1)) < ⊤)
      ∧ x0 (ix4 b m p 3) < ⊤ ∧ x0 (ix4 b m p 5) < ⊤ := by
    obtain ⟨hp, hw⟩ := IntOp.andi_eq_one.1 (hrange p)
    obtain ⟨hp, hu⟩ := IntOp.andi_eq_one.1 hp
    obtain ⟨hx, hy⟩ := IntOp.andi_eq_one.1 hp
    rw [← infinity, ← channel0_at x0 b m p, ← channel1_at x0 b m p, ← channel3_at x0 b m p,
      ← channel5_at x0 b m p]
    exact ⟨⟨holds_of hx, holds_of hy⟩, holds_of hu, holds_of hw⟩
  refine ⟨?_, ?_, fun p => (split p).2.1, fun p => (split p).2.2, ?_⟩
  · choose X hX using fun p => real_of_absf _ (split p).1.1
    exact ⟨X, hX⟩
  · choose Y hY using fun p => real_of_absf _ (split p).1.2
    exact ⟨Y, hY⟩
  · rcases IntOp.ori_eq_one.1 hspread with h | h
    · obtain ⟨p, hp⟩ := any_point _ b m h
      refine .inl ⟨p, ?_⟩
      rw [← channel0_at x0 b m p, ← channel0_at x0 b m 0, ← channel1_at x0 b m p, ← channel1_at x0 b m 0]
      rcases IntOp.ori_eq_one.1 hp with h | h
      · have h' := holds_of (P := _ ≠ _) h
        rw [first_at] at h'
        exact .inl h'
      · have h' := holds_of (P := _ ≠ _) h
        rw [first_at] at h'
        exact .inr h'
    · obtain ⟨hu, hw⟩ := IntOp.andi_eq_one.1 h
      obtain ⟨p, hp⟩ := any_point _ b m hu
      obtain ⟨q, hq⟩ := any_point _ b m hw
      refine .inr ⟨⟨p, ?_⟩, q, ?_⟩
      · rw [← channel3_at x0 b m p, ← nought]
        exact holds_of hp
      · rw [← channel5_at x0 b m q, ← nought]
        exact holds_of hq

end Cert.Proof.Pre

end
-- ==== Proof.Geom.lean ====
module

public import Idealize.ShloMosaic.Lib.Pipeline.ValueKit
public import Idealize.ShloMosaic.Lib.Pointwise

@[expose] public section

set_option maxRecDepth 16384

noncomputable section

namespace Cert.Proof.Geom

open Idealize.ShloMosaic

/-! ## Extremes of a family of 32 reals -/

/-- The least of the 32 values. -/
def lo (f : Fin 32 → ℝ) : ℝ := Finset.univ.inf' ⟨0, Finset.mem_univ _⟩ f
/-- The greatest of the 32 values. -/
def hi (f : Fin 32 → ℝ) : ℝ := Finset.univ.sup' ⟨0, Finset.mem_univ _⟩ f

theorem lo_le (f : Fin 32 → ℝ) (p : Fin 32) : lo f ≤ f p := Finset.inf'_le _ (Finset.mem_univ p)
theorem le_hi (f : Fin 32 → ℝ) (p : Fin 32) : f p ≤ hi f := Finset.le_sup' _ (Finset.mem_univ p)
theorem exists_lo (f : Fin 32 → ℝ) : ∃ p, f p = lo f := by
  obtain ⟨p, -, h⟩ := Finset.exists_mem_eq_inf' (⟨0, Finset.mem_univ _⟩ : (Finset.univ : Finset (Fin 32)).Nonempty) f
  exact ⟨p, h.symm⟩
theorem exists_hi (f : Fin 32 → ℝ) : ∃ p, f p = hi f := by
  obtain ⟨p, -, h⟩ := Finset.exists_mem_eq_sup' (⟨0, Finset.mem_univ _⟩ : (Finset.univ : Finset (Fin 32)).Nonempty) f
  exact ⟨p, h.symm⟩
theorem lo_le_hi (f : Fin 32 → ℝ) : lo f ≤ hi f := (lo_le f 0).trans (le_hi f 0)

/-- The fold that computes a minimum, starting from positive infinity, gives the least value. -/
theorem fold_min (f : Fin 32 → ℝ) : Finset.fold min (⊤ : EReal) (fun p => (f p : EReal)) Finset.univ = (lo f : EReal) := by
  change Finset.univ.inf (fun p => (f p : EReal)) = _
  refine le_antisymm ?_ (Finset.le_inf fun p _ => EReal.coe_le_coe_iff.2 (lo_le f p))
  obtain ⟨p, hp⟩ := exists_lo f
  rw [← hp]; exact Finset.inf_le (f := fun p => (f p : EReal)) (Finset.mem_univ p)

/-- The fold that computes a maximum, starting from negative infinity, gives the greatest value. -/
theorem fold_max (f : Fin 32 → ℝ) : Finset.fold max (⊥ : EReal) (fun p => (f p : EReal)) Finset.univ = (hi f : EReal) := by
  change Finset.univ.sup (fun p => (f p : EReal)) = _
  refine le_antisymm (Finset.sup_le fun p _ => EReal.coe_le_coe_iff.2 (le_hi f p)) ?_
  obtain ⟨p, hp⟩ := exists_hi f
  rw [← hp]; exact Finset.le_sup (f := fun p => (f p : EReal)) (Finset.mem_univ p)

theorem sqrt_lo (f : Fin 32 → ℝ) : Real.sqrt (lo f) = lo fun p => Real.sqrt (f p) := by
  refine le_antisymm ?_ ?_
  · obtain ⟨p, hp⟩ := exists_lo fun p => Real.sqrt (f p)
    rw [← hp]; exact Real.sqrt_le_sqrt (lo_le f p)
  · obtain ⟨p, hp⟩ := exists_lo f
    rw [← hp]; exact lo_le (fun p => Real.sqrt (f p)) p

theorem sqrt_hi (f : Fin 32 → ℝ) : Real.sqrt (hi f) = hi fun p => Real.sqrt (f p) := by
  refine le_antisymm ?_ ?_
  · obtain ⟨p, hp⟩ := exists_hi f
    rw [← hp]; exact le_hi (fun p => Real.sqrt (f p)) p
  · obtain ⟨p, hp⟩ := exists_hi fun p => Real.sqrt (f p)
    rw [← hp]; exact Real.sqrt_le_sqrt (le_hi f p)

/-! ## Binning -/

/-- The width of a quarter of the range, or 1 if the range is a point. -/
def unit (f : Fin 32 → ℝ) : ℝ := if (hi f - lo f) / 4 = 0 then 1 else (hi f - lo f) / 4

/-- The bin of a value: how many of the three inner edges it reaches. -/
def bin (f : Fin 32 → ℝ) (p : Fin 32) : ℕ :=
  (if lo f + 1 * unit f ≤ f p then 1 else 0) + (if lo f + 2 * unit f ≤ f p then 1 else 0)
    + (if lo f + 3 * unit f ≤ f p then 1 else 0)

theorem unit_pos (f : Fin 32 → ℝ) : 0 < unit f := by
  unfold unit
  split_ifs with h
  · exact one_pos
  · have := lo_le_hi f
    exact lt_of_le_of_ne (by linarith) (Ne.symm h)

theorem bin_lt (f : Fin 32 → ℝ) (p : Fin 32) : bin f p < 4 := by
  unfold bin; split_ifs <;> omega

/-- A value's distance from the least one, in units, lies between 0 and 4. -/
theorem scaled_mem (f : Fin 32 → ℝ) (p : Fin 32) : 0 ≤ (f p - lo f) / unit f ∧ (f p - lo f) / unit f ≤ 4 := by
  have hu := unit_pos f
  have h1 := lo_le f p
  have h2 := le_hi f p
  refine ⟨div_nonneg (by linarith) hu.le, ?_⟩
  rw [div_le_iff₀ hu]
  unfold unit
  split_ifs with h
  · linarith
  · linarith

theorem edge_iff (f : Fin 32 → ℝ) (p : Fin 32) (j : ℝ) : lo f + j * unit f ≤ f p ↔ j ≤ (f p - lo f) / unit f := by
  rw [le_div_iff₀ (unit_pos f)]
  constructor <;> intro h <;> linarith

/-- The bin is the floor of the scaled distance, the top edge counted with the last bin. -/
theorem floor_scaled (f : Fin 32 → ℝ) (p : Fin 32) :
    ⌊(f p - lo f) / unit f⌋ = if ⌊(f p - lo f) / unit f⌋ = 4 then 4 else (bin f p : ℤ) := by
  split_ifs with h4
  · exact h4
  obtain ⟨h0, h1⟩ := scaled_mem f p
  have e := edge_iff f p
  simp only [bin, e]
  generalize (f p - lo f) / unit f = t at *
  have ht : t < 4 := by
    refine lt_of_le_of_ne h1 fun h => h4 ?_
    rw [h]; norm_num
  rw [Int.floor_eq_iff]
  split_ifs <;> push_cast <;> constructor <;> linarith

theorem bin_of_floor_four (f : Fin 32 → ℝ) (p : Fin 32) (h : ⌊(f p - lo f) / unit f⌋ = 4) : bin f p = 3 := by
  have h4 : (4 : ℝ) ≤ (f p - lo f) / unit f := by
    have := Int.floor_le ((f p - lo f) / unit f)
    rw [h] at this; exact_mod_cast this
  unfold bin
  rw [if_pos ((edge_iff f p 1).2 (by linarith)), if_pos ((edge_iff f p 2).2 (by linarith)),
    if_pos ((edge_iff f p 3).2 (by linarith))]

/-- The least value lies in bin 0. -/
theorem bin_lo (f : Fin 32 → ℝ) (p : Fin 32) (h : f p = lo f) : bin f p = 0 := by
  have hu := unit_pos f
  unfold bin
  rw [h, if_neg (by linarith), if_neg (by linarith), if_neg (by linarith)]

/-- The greatest value lies in bin 3, unless all are equal. -/
theorem bin_hi (f : Fin 32 → ℝ) (p : Fin 32) (h : f p = hi f) (hne : lo f ≠ hi f) : bin f p = 3 := by
  have hlt : lo f < hi f := lt_of_le_of_ne (lo_le_hi f) hne
  have hu : unit f = (hi f - lo f) / 4 := by
    unfold unit; rw [if_neg (by linarith [hlt] : ¬ _)]
  unfold bin
  rw [h, hu, if_pos (by linarith), if_pos (by linarith), if_pos (by linarith)]

/-- If all points share a bin, then all values are equal. -/
theorem const_of_bin (f : Fin 32 → ℝ) (b : ℕ) (h : ∀ p, bin f p = b) (p p' : Fin 32) : f p = f p' := by
  obtain ⟨a, ha⟩ := exists_lo f
  obtain ⟨c, hc⟩ := exists_hi f
  by_cases hne : lo f = hi f
  · have := lo_le f p; have := le_hi f p; have := lo_le f p'; have := le_hi f p'
    linarith
  · have h1 := bin_lo f a ha
    have h2 := bin_hi f c hc hne
    rw [h] at h1 h2; omega

/-! ## Polar coordinates -/

/-- The distance from the origin. -/
def rad (x y : ℝ) : ℝ := Real.sqrt (x * x + y * y)

/-- The azimuth, as the two-argument arctangent defines it. -/
def ang (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem atan2_coe (x y : ℝ) : Ideal.atan2 (y : EReal) (x : EReal) = (ang y x : EReal) := rfl

theorem rad_eq (x y : ℝ) (hx : x ≠ 0) : rad x y = |x| * Real.sqrt (1 + (y / x) ^ 2) := by
  rw [rad, ← Real.sqrt_sq_eq_abs, ← Real.sqrt_mul (sq_nonneg x)]
  congr 1; field_simp

theorem rad_mul (x y : ℝ) : rad x y * Real.cos (ang y x) = x ∧ rad x y * Real.sin (ang y x) = y := by
  have hs : ∀ t : ℝ, Real.sqrt (1 + t ^ 2) ≠ 0 := fun t => (Real.sqrt_pos.2 (by positivity)).ne'
  rcases lt_trichotomy x 0 with hx | hx | hx
  · have hr := rad_eq x y hx.ne
    rw [abs_of_neg hx] at hr
    have hst := hs (y / x)
    have hc : Real.cos (ang y x) = -(1 / Real.sqrt (1 + (y / x) ^ 2)) := by
      unfold ang
      rw [if_neg (not_lt.2 hx.le), if_pos hx]
      split_ifs
      · rw [Real.cos_add_pi, Real.cos_arctan]
      · rw [Real.cos_sub_pi, Real.cos_arctan]
    have hn : Real.sin (ang y x) = -((y / x) / Real.sqrt (1 + (y / x) ^ 2)) := by
      unfold ang
      rw [if_neg (not_lt.2 hx.le), if_pos hx]
      split_ifs
      · rw [Real.sin_add_pi, Real.sin_arctan]
      · rw [Real.sin_sub_pi, Real.sin_arctan]
    rw [hr, hc, hn]
    constructor
    · field_simp
    · have := hx.ne
      generalize Real.sqrt (1 + (y / x) ^ 2) = s at *
      field_simp
  · subst hx
    have hr : rad 0 y = |y| := by rw [rad, zero_mul, zero_add, Real.sqrt_mul_self_eq_abs]
    rw [hr]; unfold ang
    rw [if_neg (lt_irrefl _), if_neg (lt_irrefl _)]
    rcases lt_trichotomy y 0 with hy | hy | hy
    · rw [if_neg (not_lt.2 hy.le), if_pos hy, abs_of_neg hy, Real.cos_neg, Real.sin_neg]; simp
    · subst hy; simp
    · rw [if_pos hy, abs_of_pos hy]; simp
  · have hr := rad_eq x y hx.ne'
    rw [abs_of_pos hx] at hr
    have hst := hs (y / x)
    have hc : Real.cos (ang y x) = 1 / Real.sqrt (1 + (y / x) ^ 2) := by
      unfold ang; rw [if_pos hx, Real.cos_arctan]
    have hn : Real.sin (ang y x) = (y / x) / Real.sqrt (1 + (y / x) ^ 2) := by
      unfold ang; rw [if_pos hx, Real.sin_arctan]
    rw [hr, hc, hn]
    constructor
    · field_simp
    · have := hx.ne'
      generalize Real.sqrt (1 + (y / x) ^ 2) = s at *
      field_simp

/-- A point is determined by its distance and its azimuth. -/
theorem polar_inj {x y x' y' : ℝ} (hr : rad x y = rad x' y') (ha : ang y x = ang y' x') : x = x' ∧ y = y' := by
  obtain ⟨h1, h2⟩ := rad_mul x y
  obtain ⟨h3, h4⟩ := rad_mul x' y'
  rw [hr, ha] at h1 h2
  exact ⟨h1.symm.trans h3, h2.symm.trans h4⟩

/-! ## Cells -/

/-- The distances of the points. -/
def rads (X Y : Fin 32 → ℝ) : Fin 32 → ℝ := fun p => rad (X p) (Y p)
/-- The azimuths of the points. -/
def angs (X Y : Fin 32 → ℝ) : Fin 32 → ℝ := fun p => ang (Y p) (X p)
/-- The cell of a point: four range bins by four azimuth bins. -/
def cell (X Y : Fin 32 → ℝ) (p : Fin 32) : ℕ := bin (rads X Y) p * 4 + bin (angs X Y) p

theorem cell_lt (X Y : Fin 32 → ℝ) (p : Fin 32) : cell X Y p < 16 := by
  have := bin_lt (rads X Y) p; have := bin_lt (angs X Y) p
  unfold cell; omega

/-- Points that do not all coincide do not all lie in one cell. -/
theorem exists_outside (X Y : Fin 32 → ℝ) (h : ∃ p, X p ≠ X 0 ∨ Y p ≠ Y 0) (k : ℕ) : ∃ p, cell X Y p ≠ k := by
  by_contra hc
  push Not at hc
  obtain ⟨p, hp⟩ := h
  have e : ∀ q, bin (rads X Y) q = k / 4 ∧ bin (angs X Y) q = k % 4 := by
    intro q
    have h1 := hc q
    have := bin_lt (rads X Y) q; have := bin_lt (angs X Y) q
    unfold cell at h1; omega
  obtain ⟨h1, h2⟩ := polar_inj (const_of_bin (rads X Y) _ (fun q => (e q).1) p 0)
    (const_of_bin (angs X Y) _ (fun q => (e q).2) p 0)
  rcases hp with hp | hp
  · exact hp h1
  · exact hp h2

/-! ## What a cell holds -/

/-- How many points a cell holds. -/
def cnt (c : Fin 32 → ℕ) (k : ℕ) : ℝ := ∑ p, if c p = k then 1 else 0

/-- The maximum of 0 and the values of the points in a cell. -/
def top (c : Fin 32 → ℕ) (w : Fin 32 → EReal) (k : ℕ) : EReal :=
  Finset.fold max 0 (fun p => if c p = k then w p else 0) Finset.univ

theorem le_top (c : Fin 32 → ℕ) (w : Fin 32 → EReal) (k : ℕ) (a : EReal) :
    top c w k ≤ a ↔ 0 ≤ a ∧ ∀ p, (if c p = k then w p else 0) ≤ a := by
  rw [top, Finset.fold_max_le]; simp

/-- Starting the maximum at negative infinity changes nothing if some point lies outside the cell or some value is
    not negative. -/
theorem fold_bot_eq_top (c : Fin 32 → ℕ) (w : Fin 32 → EReal) (k : ℕ) (h : (∃ p, c p ≠ k) ∨ ∃ p, 0 ≤ w p) :
    Finset.fold max (⊥ : EReal) (fun p => if c p = k then w p else 0) Finset.univ = top c w k := by
  refine eq_of_forall_ge_iff fun a => ?_
  rw [Finset.fold_max_le, le_top]
  simp only [bot_le, true_and, Finset.mem_univ, forall_const]
  refine ⟨fun ha => ⟨?_, ha⟩, fun ha => ha.2⟩
  rcases h with ⟨p, hp⟩ | ⟨p, hp⟩
  · have := ha p; rwa [if_neg hp] at this
  · refine le_trans ?_ (ha p)
    split_ifs
    · exact hp
    · exact le_rfl

/-- Starting the maximum at zero and taking the maximum with zero once more changes nothing. -/
theorem max_zero_fold (c : Fin 32 → ℕ) (w : Fin 32 → EReal) (k : ℕ) :
    max 0 (Finset.fold max 0 (fun p => if c p = k then w p else 0) Finset.univ) = top c w k :=
  max_eq_right ((le_top c w k _).1 le_rfl).1

/-- The maximum is a real if no value is positive infinity. -/
theorem top_real (c : Fin 32 → ℕ) (w : Fin 32 → EReal) (hw : ∀ p, w p < ⊤) (k : ℕ) : ((top c w k).toReal : EReal) = top c w k := by
  have h0 : 0 ≤ top c w k := ((le_top c w k _).1 le_rfl).1
  refine EReal.coe_toReal ?_ (fun h => ?_)
  · refine ne_of_lt ?_
    rw [top, Finset.fold_max_lt]
    refine ⟨by simp, fun p _ => ?_⟩
    split_ifs
    · exact hw p
    · simp
  · rw [h] at h0; exact absurd h0 (by simp)

/-- The three channels of the grid map, cell by cell: the count and the two maxima. -/
def chan (c : Fin 32 → ℕ) (w₁ w₂ : Fin 32 → EReal) : Fin 3 → Fin 16 → ℝ
  | 0, k => cnt c k
  | 1, k => (top c w₁ k).toReal
  | 2, k => (top c w₂ k).toReal

end Cert.Proof.Geom
-- ==== Proof.Norm.lean ====
module

public import Idealize.ShloMosaic.Lib.Pipeline.ValueKit
public import Idealize.ShloMosaic.Lib.Pointwise

@[expose] public section

set_option maxRecDepth 16384

noncomputable section

namespace Cert.Proof.Norm

open Idealize.ShloMosaic

/-- An extended real that is not a real. -/
def Inft (x : EReal) : Prop := x = ⊤ ∨ x = ⊥

theorem inft_or_real (x : EReal) : Inft x ∨ ∃ r : ℝ, x = r := by
  induction x with
  | bot => exact .inl (.inr rfl)
  | top => exact .inl (.inl rfl)
  | coe r => exact .inr ⟨r, rfl⟩

/-- A sum with an infinite left term is infinite. -/
theorem Inft.add {x : EReal} (h : Inft x) (y : EReal) : Inft (x + y) := by
  rcases h with rfl | rfl
  · induction y with
    | bot => exact .inr (by simp)
    | top => exact .inl (by simp)
    | coe r => exact .inl (by simp)
  · exact .inr (by simp)

theorem Inft.add' {y : EReal} (x : EReal) (h : Inft y) : Inft (x + y) := by
  rw [add_comm]; exact h.add x

theorem Inft.neg {x : EReal} (h : Inft x) : Inft (-x) := by
  rcases h with rfl | rfl
  · exact .inr (by simp)
  · exact .inl (by simp)

/-- A difference with an infinite subtrahend is infinite. -/
theorem Inft.sub' {y : EReal} (x : EReal) (h : Inft y) : Inft (x - y) := by
  rw [sub_eq_add_neg]; exact Inft.add' x h.neg

/-- A finite sum with an infinite term is infinite. -/
theorem Inft.sum {ι : Type} [Fintype ι] (f : ι → EReal) (i : ι) (h : Inft (f i)) : Inft (∑ j, f j) := by
  classical
  rw [← Finset.add_sum_erase _ f (Finset.mem_univ i)]
  exact h.add _

/-- An infinite number times a nonzero real is infinite. -/
theorem Inft.mul_coe {x : EReal} (h : Inft x) {r : ℝ} (hr : r ≠ 0) : Inft (x * (r : EReal)) := by
  rcases lt_or_gt_of_ne hr with hr | hr
  · rcases h with rfl | rfl
    · exact .inr (EReal.top_mul_coe_of_neg hr)
    · exact .inl (EReal.bot_mul_coe_of_neg hr)
  · rcases h with rfl | rfl
    · exact .inl (EReal.top_mul_coe_of_pos hr)
    · exact .inr (EReal.bot_mul_coe_of_pos hr)

theorem Inft.mul_self {x : EReal} (h : Inft x) : x * x = ⊤ := by
  rcases h with rfl | rfl
  · exact EReal.top_mul_top
  · exact EReal.bot_mul_bot

/-- Division by a nonzero real is multiplication by its inverse. -/
theorem div_coe (x : EReal) {n : ℝ} (hn : n ≠ 0) : Ideal.div x (n : EReal) = x * ((n⁻¹ : ℝ) : EReal) := by
  rw [Ideal.div, if_neg (by exact_mod_cast hn), EReal.coe_inv]

theorem Inft.div {x : EReal} (h : Inft x) {n : ℝ} (hn : n ≠ 0) : Inft (Ideal.div x (n : EReal)) := by
  rw [div_coe x hn]; exact h.mul_coe (inv_ne_zero hn)

/-- The mean of squares that are all infinite is positive infinity. -/
theorem mean_top {R : Type} [Fintype R] (n : ℝ) (hn : 0 < n) (r : R) (f : R → EReal) (hf : ∀ r, Inft (f r)) :
    Ideal.div (∑ r, f r * f r) (n : EReal) = ⊤ := by
  have : ∑ r, f r * f r = ⊤ := by
    have h0 : ∀ r, f r * f r = ⊤ := fun r => (hf r).mul_self
    simp only [h0]
    classical
    rw [← Finset.add_sum_erase _ _ (Finset.mem_univ r)]
    refine EReal.top_add_of_ne_bot ?_
    have : (0 : EReal) ≤ ∑ x ∈ Finset.univ.erase r, (⊤ : EReal) := Finset.sum_nonneg fun _ _ => le_top
    intro h; rw [h] at this; exact absurd this (by simp)
  rw [this, div_coe _ hn.ne', EReal.top_mul_coe_of_pos (inv_pos.2 hn)]

/-- A sum of reals, read in the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem div_coe_coe (x : ℝ) {n : ℝ} (hn : n ≠ 0) : Ideal.div (x : EReal) (n : EReal) = ((x / n : ℝ) : EReal) := by
  rw [div_coe _ hn, ← EReal.coe_mul, div_eq_mul_inv]

/-- NORMALISING A LINEAR MAP OVER A GROUP OF ROWS: subtracting from each weight the mean of its column and dividing
    by the root of the mean square is subtracting the mean of the row values and dividing by the root of the
    variance; the common value is a real. The weights are any extended reals, the vector is real. -/
theorem norm_eq {R K : Type} [Fintype R] [Fintype K] (w : R → K → EReal) (v : K → ℝ) (n e : ℝ)
    (hn : n = Fintype.card R) (he : 0 < e) (r : R) (o p d : R → EReal)
    (ho : ∀ r, o r = ∑ k, (w r k - Ideal.div (∑ r', w r' k) n) * v k)
    (hp : ∀ r, p r = ∑ k, w r k * v k) (hd : ∀ r, d r = p r - Ideal.div (∑ r', p r') n) :
    ∃ x : ℝ, o r * Ideal.rsqrt (Ideal.div (∑ r, o r * o r) n + e) = x
      ∧ Ideal.div (d r) (Ideal.sqrt (Ideal.div (∑ r, d r * d r) n + e)) = x := by
  have hn0 : 0 < n := by
    rw [hn]; exact_mod_cast Fintype.card_pos_iff.2 ⟨r⟩
  by_cases hall : ∀ k, v k ≠ 0 → ∀ r, ∃ x : ℝ, w r k = x
  · -- every weight that matters is real
    let u : R → K → ℝ := fun r k => if v k = 0 then 0 else (w r k).toReal
    have hu : ∀ k, v k ≠ 0 → ∀ r, w r k = (u r k : EReal) := by
      intro k hk r
      obtain ⟨x, hx⟩ := hall k hk r
      simp only [u, if_neg hk, hx, EReal.toReal_coe]
    have ho' : ∀ r, o r = ((∑ k, (u r k - (∑ r', u r' k) / n) * v k : ℝ) : EReal) := by
      intro r
      rw [ho, coe_sum]
      refine Finset.sum_congr rfl fun k _ => ?_
      by_cases hk : v k = 0
      · simp [hk]
      · simp only [hu k hk]
        rw [← coe_sum, div_coe_coe _ hn0.ne', ← EReal.coe_sub, ← EReal.coe_mul]
    have hp' : ∀ r, p r = ((∑ k, u r k * v k : ℝ) : EReal) := by
      intro r
      rw [hp, coe_sum]
      refine Finset.sum_congr rfl fun k _ => ?_
      by_cases hk : v k = 0
      · simp [hk]
      · rw [hu k hk, ← EReal.coe_mul]
    let q : R → ℝ := fun r => ∑ k, (u r k - (∑ r', u r' k) / n) * v k
    have hq : ∀ r, (∑ k, u r k * v k) - (∑ r', ∑ k, u r' k * v k) / n = q r := by
      intro r
      simp only [q, sub_mul, Finset.sum_sub_distrib]
      congr 1
      rw [Finset.sum_comm, Finset.sum_div]
      refine Finset.sum_congr rfl fun k _ => ?_
      rw [← Finset.sum_mul]; ring
    have hd' : ∀ r, d r = (q r : EReal) := by
      intro r
      rw [hd]
      simp only [hp']
      rw [← coe_sum, div_coe_coe _ hn0.ne', ← EReal.coe_sub, hq]
    have ho'' : ∀ r, o r = (q r : EReal) := ho'
    have hs : ((∑ r, q r * q r) / n + e : ℝ) > 0 := by
      have : 0 ≤ (∑ r, q r * q r) / n := div_nonneg (Finset.sum_nonneg fun r _ => mul_self_nonneg _) hn0.le
      linarith
    have hvar : Ideal.div (∑ r, ((q r : EReal) * (q r : EReal))) (n : EReal) + (e : EReal)
        = (((∑ r, q r * q r) / n + e : ℝ) : EReal) := by
      simp only [← EReal.coe_mul]
      rw [← coe_sum, div_coe_coe _ hn0.ne', ← EReal.coe_add]
    refine ⟨q r * (Real.sqrt ((∑ r, q r * q r) / n + e))⁻¹, ?_, ?_⟩
    · simp only [ho'']
      rw [hvar, Ideal.rsqrt_coe, if_neg (not_lt.2 hs.le), if_neg hs.ne', ← EReal.coe_mul]
    · simp only [hd']
      rw [hvar, Ideal.sqrt_coe, if_neg (not_lt.2 hs.le), div_coe_coe _ (Real.sqrt_pos.2 hs).ne', div_eq_mul_inv]
  · -- some weight that matters is infinite: both sides are zero
    push Not at hall
    obtain ⟨k, hk, r₀, hr₀⟩ := hall
    have hw : Inft (w r₀ k) := (inft_or_real _).resolve_right fun ⟨x, hx⟩ => hr₀ x hx
    have hoI : ∀ r, Inft (o r) := by
      intro r
      rw [ho]
      refine Inft.sum _ k (Inft.mul_coe (Inft.sub' _ (Inft.div (Inft.sum _ r₀ hw) hn0.ne')) hk)
    have hpI : Inft (p r₀) := by
      rw [hp]; exact Inft.sum _ k (hw.mul_coe hk)
    have hdI : ∀ r, Inft (d r) := by
      intro r
      rw [hd]; exact Inft.sub' _ (Inft.div (Inft.sum _ r₀ hpI) hn0.ne')
    refine ⟨0, ?_, ?_⟩
    · rw [mean_top n hn0 r o hoI, EReal.top_add_coe, Ideal.rsqrt_top]; simp
    · rw [mean_top n hn0 r d hdI, EReal.top_add_coe]
      rw [show Ideal.sqrt ⊤ = ⊤ from rfl, Ideal.div, if_neg (by simp)]; simp

end Cert.Proof.Norm
-- ==== Proof.KernelVal.lean ====
module

public import proofs.«01_k».proof.Proof.Gen.KernelIdeal
public import proofs.«01_k».proof.Proof.Gen.KernelIdeal.Skeleton
public import proofs.«01_k».proof.Proof.Gen.KernelIdeal.Frame
public import proofs.«01_k».proof.Proof.Gen.KernelIdeal.Value
public import proofs.«01_k».proof.Proof.Geom
public import proofs.«01_k».proof.Proof.Norm
public import Idealize.ShloMosaic.Lib.Pipeline.ValueKit
public import Idealize.ShloMosaic.Lib.Pointwise

@[expose] public section

set_option maxRecDepth 16384

noncomputable section

namespace Cert.Proof.KernelVal

open Idealize.ShloMosaic Idealize.ShloMosaic.TcCoe Idealize.SL.Sem
open Cert.KernelIdeal Cert.KernelIdeal.Gen
open Cert.Proof.Geom

/-- The row of counts of cell `k`: how many points of each group lie in it. -/
def cntRow (f : IVec S32x4096 32) (k : BitVec 32) : FVec Ideal S1x4096 .f32 :=
  shapeCast S1x4096 (multiReduction (F := Ideal) .add [0] S4096
    (sitofp .f32 (extui 32 (cmpi .eq f (broadcast S32x4096 k)) natLt_1_32)) 0x00000000#32
    reduces_S32x4096_S4096 (.inl rfl) rfl) shapeCasts_S4096_S1x4096

/-- The row of maxima over cell `k` of the feature `w`, points outside the cell counting as zero. -/
def maxRow (f : IVec S32x4096 32) (w : FVec Ideal S32x4096 .f32) (k : BitVec 32) : FVec Ideal S1x4096 .f32 :=
  shapeCast S1x4096 (multiReduction (F := Ideal) .maximumf [0] S4096
    (select (cmpi .eq f (broadcast S32x4096 k)) w (broadcast S32x4096 (Scalar.ofBits .f32 0x00000000#32)))
    0xFF800000#32 reduces_S32x4096_S4096 (.inl rfl) rfl) shapeCasts_S4096_S1x4096

/-- The 48 rows stacked: 16 counts, then 16 maxima of each of the two features. -/
def stack (f : IVec S32x4096 32) (u w : FVec Ideal S32x4096 .f32) : FVec Ideal S48x4096 .f32 :=
  concatenate (α := Ideal .f32) S48x4096 0 (⟨S1x4096, cntRow f 0#32⟩ :: ⟨S1x4096, cntRow f 1#32⟩ :: ⟨S1x4096, cntRow f 2#32⟩ :: ⟨S1x4096, cntRow f 3#32⟩ :: ⟨S1x4096, cntRow f 4#32⟩ :: ⟨S1x4096, cntRow f 5#32⟩ :: ⟨S1x4096, cntRow f 6#32⟩ :: ⟨S1x4096, cntRow f 7#32⟩ ::
    ⟨S1x4096, cntRow f 8#32⟩ :: ⟨S1x4096, cntRow f 9#32⟩ :: ⟨S1x4096, cntRow f 10#32⟩ :: ⟨S1x4096, cntRow f 11#32⟩ :: ⟨S1x4096, cntRow f 12#32⟩ :: ⟨S1x4096, cntRow f 13#32⟩ :: ⟨S1x4096, cntRow f 14#32⟩ :: ⟨S1x4096, cntRow f 15#32⟩ ::
    ⟨S1x4096, maxRow f u 0#32⟩ :: ⟨S1x4096, maxRow f u 1#32⟩ :: ⟨S1x4096, maxRow f u 2#32⟩ :: ⟨S1x4096, maxRow f u 3#32⟩ :: ⟨S1x4096, maxRow f u 4#32⟩ :: ⟨S1x4096, maxRow f u 5#32⟩ :: ⟨S1x4096, maxRow f u 6#32⟩ :: ⟨S1x4096, maxRow f u 7#32⟩ ::
    ⟨S1x4096, maxRow f u 8#32⟩ :: ⟨S1x4096, maxRow f u 9#32⟩ :: ⟨S1x4096, maxRow f u 10#32⟩ :: ⟨S1x4096, maxRow f u 11#32⟩ :: ⟨S1x4096, maxRow f u 12#32⟩ :: ⟨S1x4096, maxRow f u 13#32⟩ :: ⟨S1x4096, maxRow f u 14#32⟩ :: ⟨S1x4096, maxRow f u 15#32⟩ ::
    ⟨S1x4096, maxRow f w 0#32⟩ :: ⟨S1x4096, maxRow f w 1#32⟩ :: ⟨S1x4096, maxRow f w 2#32⟩ :: ⟨S1x4096, maxRow f w 3#32⟩ :: ⟨S1x4096, maxRow f w 4#32⟩ :: ⟨S1x4096, maxRow f w 5#32⟩ :: ⟨S1x4096, maxRow f w 6#32⟩ :: ⟨S1x4096, maxRow f w 7#32⟩ ::
    ⟨S1x4096, maxRow f w 8#32⟩ :: ⟨S1x4096, maxRow f w 9#32⟩ :: ⟨S1x4096, maxRow f w 10#32⟩ :: ⟨S1x4096, maxRow f w 11#32⟩ :: ⟨S1x4096, maxRow f w 12#32⟩ :: ⟨S1x4096, maxRow f w 13#32⟩ :: ⟨S1x4096, maxRow f w 14#32⟩ :: ⟨S1x4096, maxRow f w 15#32⟩ ::
    [])
    concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S48x4096_d0

/-- The first layer: the stacked rows under the weights, each group of rows divided by its root mean square. -/
def layer (v316 : FVec Ideal S48x4096 .f32) (v317 : Vec Ideal S512x48 .f32) : FVec Ideal S512x4096 .f32 :=
  let v318 : FVec Ideal S512x48 .f32 := shapeCast S512x48 v317 shapeCasts_S512x48_S512x48
  let cst_121 : FVec Ideal S512x4096 .f32 := constant S512x4096 .f32 0x00000000#32
  let v319 : FVec Ideal S512x4096 .f32 := matmul dot_S512x48_S48x4096_S512x4096_1_0_0_1_n_n none v318 v316 cst_121
  let v320 : FVec Ideal S8x64x4096 .f32 := shapeCast S8x64x4096 v319 shapeCasts_S512x4096_S8x64x4096
  let v321 : FVec Ideal S8x64x4096 .f32 := mulf v320 v320
  let v322 : FVec Ideal S8x4096 .f32 := multiReduction .add [1] S8x4096 v321 0x00000000#32 reduces_S8x64x4096_S8x4096 (.inl rfl) rfl
  let v323 : FVec Ideal S8x1x4096 .f32 := shapeCast S8x1x4096 v322 shapeCasts_S8x4096_S8x1x4096
  let cst_123 : Ideal .f32 := Scalar.ofBits .f32 0x42800000#32
  let v324 : FVec Ideal S8x1x4096 .f32 := broadcast S8x1x4096 cst_123
  let v325 : FVec Ideal S8x1x4096 .f32 := divf v323 v324
  let cst_124 : Ideal .f32 := Scalar.ofBits .f32 0x3727C5AC#32
  let v326 : FVec Ideal S8x1x4096 .f32 := broadcast S8x1x4096 cst_124
  let v327 : FVec Ideal S8x1x4096 .f32 := addf v325 v326
  let v328 : FVec Ideal S8x1x4096 .f32 := rsqrt v327
  let v329 : FVec Ideal S8x64x4096 .f32 := broadcastTo S8x64x4096 v328 broadcasts_S8x1x4096_S8x64x4096
  let v330 : FVec Ideal S8x64x4096 .f32 := mulf v320 v329
  let v331 : FVec Ideal S512x4096 .f32 := shapeCast S512x4096 v330 shapeCasts_S8x64x4096_S512x4096
  v331

/-- The cell number of every point, from the loaded coordinates. -/
def cells (l0 l1 : Vec Ideal S1x1x32x4096 .f32) : IVec S32x4096 32 :=
  k0_pay19 (k0_pay7 l0 l1) (k0_pay9 l0 l1) (k0_pay13 (k0_pay10 l0 l1) k0_pay12)
    (k0_pay14 (k0_pay6 l0 l1) (k0_pay8 l0 l1) (k0_pay11 l0 l1))
    (k0_pay15 (k0_pay7 l0 l1) (k0_pay9 l0 l1) (k0_pay10 l0 l1) k0_pay12)
    (k0_pay16 (k0_pay7 l0 l1) (k0_pay9 l0 l1) (k0_pay10 l0 l1) k0_pay12) k0_pay17 k0_pay18

/-- The kernel's stored block is the second layer of the first layer of the stacked rows. -/
theorem pay_eq (l0 l1 : Vec Ideal S1x1x32x4096 .f32) (u₄ u₅ : FVec Ideal S32x4096 .f32) (a : Vec Ideal S512x48 .f32)
    (w : Vec Ideal S64x512 .f32) :
    k0_pay1 (k0_pay81 u₄ u₅ (cells l0 l1) (k0_pay21 (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay22 u₄ (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay23 u₅ (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay25 (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay26 u₄ (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay27 u₅ (k0_pay7 l0 l1) (k0_pay9 l0 l1) (k0_pay13 (k0_pay10 l0 l1) (k0_pay12 (F := Ideal))) (k0_pay14 (k0_pay6 l0 l1) (k0_pay8 l0 l1) (k0_pay11 l0 l1)) (k0_pay15 (k0_pay7 l0 l1) (k0_pay9 l0 l1) (k0_pay10 l0 l1) (k0_pay12 (F := Ideal))) (k0_pay16 (k0_pay7 l0 l1) (k0_pay9 l0 l1) (k0_pay10 l0 l1) (k0_pay12 (F := Ideal))) (k0_pay17) (k0_pay18)) (k0_pay30 (F := Ideal) (cells l0 l1) (k0_pay28)) (k0_pay31 u₄ (cells l0 l1) (k0_pay28)) (k0_pay32 u₅ (cells l0 l1) (k0_pay28)) (k0_pay34 (F := Ideal) (cells l0 l1)) (k0_pay35 u₄ (cells l0 l1)) (k0_pay36 u₅ (cells l0 l1)) (k0_pay38 (F := Ideal) (cells l0 l1)) (k0_pay39 u₄ (cells l0 l1)) (k0_pay40 u₅ (cells l0 l1)) (k0_pay43 (F := Ideal) (cells l0 l1) (k0_pay41)) (k0_pay44 u₄ (cells l0 l1) (k0_pay41)) (k0_pay45 u₅ (cells l0 l1) (k0_pay41)) (k0_pay47 (F := Ideal) (cells l0 l1)) (k0_pay48 u₄ (cells l0 l1)) (k0_pay49 u₅ (cells l0 l1)) (k0_pay51 (F := Ideal) (cells l0 l1)) (k0_pay52 u₄ (cells l0 l1)) (k0_pay53 u₅ (cells l0 l1)) (k0_pay56 (F := Ideal) (cells l0 l1) (k0_pay54)) (k0_pay57 u₄ (cells l0 l1) (k0_pay54)) (k0_pay58 u₅ (cells l0 l1) (k0_pay54)) (k0_pay60 (F := Ideal) (cells l0 l1)) (k0_pay61 u₄ (cells l0 l1)) (k0_pay62 u₅ (cells l0 l1)) (k0_pay64 (F := Ideal) (cells l0 l1)) (k0_pay65 u₄ (cells l0 l1)) (k0_pay66 u₅ (cells l0 l1)) (k0_pay69 (F := Ideal) (cells l0 l1) (k0_pay67)) (k0_pay70 u₄ (cells l0 l1) (k0_pay67)) (k0_pay71 u₅ (cells l0 l1) (k0_pay67)) (k0_pay73 (F := Ideal) (cells l0 l1)) (k0_pay74 u₄ (cells l0 l1)) (k0_pay75 u₅ (cells l0 l1)) (k0_pay77 (F := Ideal) (cells l0 l1)) (k0_pay78 u₄ (cells l0 l1)) (k0_pay79 u₅ (cells l0 l1)) k0_pay80 a) w
      = k0_pay1 (layer (stack (cells l0 l1) u₄ u₅) a) w := rfl

/-- A selection by equality of two words is a selection by equality of the numbers they hold. -/
theorem select_cell (a b : ℕ) (ha : a < 16) (hb : b < 16) (x : EReal) :
    Scalar.select (IntOp.cmpi CmpIPredicate.eq (BitVec.ofNat 32 a) (BitVec.ofNat 32 b)) x 0 = if a = b then x else 0 := by
  interval_cases a <;> interval_cases b <;> rfl

/-- An equality test of two words, read as a float, is 1 or 0. -/
theorem float_cell (a b : ℕ) (ha : a < 16) (hb : b < 16) :
    (FloatOps.sitofp FTy.f32 (BitVec.setWidth 32 (IntOp.cmpi CmpIPredicate.eq (BitVec.ofNat 32 a) (BitVec.ofNat 32 b))) : Ideal .f32)
      = ((if a = b then 1 else 0 : ℝ) : EReal) := by
  have e : ∀ w : BitVec 32, (FloatOps.sitofp FTy.f32 w : Ideal .f32) = (((w.toInt : ℤ) : ℝ) : EReal) := fun w => rfl
  rw [e]
  have : (BitVec.setWidth 32 (IntOp.cmpi CmpIPredicate.eq (BitVec.ofNat 32 a) (BitVec.ofNat 32 b))).toInt = if a = b then 1 else 0 := by
    interval_cases a <;> interval_cases b <;> rfl
  rw [this]
  split_ifs <;> norm_num

/-- A row of counts holds the counts. -/
theorem cntRow_at (f : IVec S32x4096 32) (k : ℕ) (hk : k < 16) (m : Fin 4096) (c : Fin 32 → ℕ) (hc : ∀ p, c p < 16)
    (h : ∀ p, f (ix2 p m) = BitVec.ofNat 32 (c p)) : cntRow f (BitVec.ofNat 32 k) (ix2 0 m) = (cnt c k : EReal) := by
  pointwise [cntRow]
  rw [cnt, Norm.coe_sum]
  refine Finset.sum_congr rfl fun p _ => ?_
  rw [h p]
  exact float_cell (c p) k (hc p) hk

/-- A row of maxima holds the maxima, if the points do not all lie in the cell or some value is not negative. -/
theorem maxRow_at (f : IVec S32x4096 32) (w : FVec Ideal S32x4096 .f32) (k : ℕ) (hk : k < 16) (m : Fin 4096)
    (c : Fin 32 → ℕ) (hc : ∀ p, c p < 16) (h : ∀ p, f (ix2 p m) = BitVec.ofNat 32 (c p))
    (ho : (∃ p, c p ≠ k) ∨ ∃ p, 0 ≤ w (ix2 p m)) :
    maxRow f w (BitVec.ofNat 32 k) (ix2 0 m) = top c (fun p => w (ix2 p m)) k := by
  pointwise [maxRow]
  rw [← fold_bot_eq_top c (fun p => w (ix2 p m)) k ho]
  have e : Ideal.ofBits FTy.f32 4286578688#32 = ⊥ := by simp [Ideal.ofBits, Ideal.ieee]
  rw [e]
  refine Finset.fold_congr fun p _ => ?_
  rw [h p]
  exact select_cell (c p) k (hc p) hk _

/-- The stacked rows hold the counts and the two features' maxima. -/
theorem stack_at (f : IVec S32x4096 32) (u w : FVec Ideal S32x4096 .f32) (m : Fin 4096)
    (c : Fin 32 → ℕ) (hc : ∀ p, c p < 16) (h : ∀ p, f (ix2 p m) = BitVec.ofNat 32 (c p))
    (hu : ∀ p, u (ix2 p m) < ⊤) (hw : ∀ p, w (ix2 p m) < ⊤)
    (ho : ∀ k, (∃ p, c p ≠ k) ∨ (∃ p, 0 ≤ u (ix2 p m)) ∧ ∃ p, 0 ≤ w (ix2 p m)) (k : Fin 48) :
    stack f u w (ix2 k m)
      = (chan c (fun p => u (ix2 p m)) (fun p => w (ix2 p m)) ⟨k / 16, by omega⟩ ⟨k % 16, by omega⟩ : EReal) := by
  have A : ∀ (n : ℕ) (hn : n < 16) (i : S1x4096.Idx), (i 0 : ℕ) = 0 → (i 1 : ℕ) = m →
      (k : ℕ) = n → cntRow f (BitVec.ofNat 32 n) i
        = (chan c (fun p => u (ix2 p m)) (fun p => w (ix2 p m)) ⟨k / 16, by omega⟩ ⟨k % 16, by omega⟩ : EReal) := by
    intro n hn i h0 h1 hk
    obtain rfl : i = ix2 0 m := by idx_vars i; exact congrArg₂ _ (Fin.ext h0) (Fin.ext h1)
    rw [cntRow_at f n hn m c hc h]
    have e1 : (⟨k / 16, by omega⟩ : Fin 3) = 0 := Fin.ext (by simp only [Fin.val_zero]; omega)
    rw [e1]
    simp only [chan]; congr 2; omega
  have B : ∀ (n : ℕ) (hn : n < 16) (i : S1x4096.Idx), (i 0 : ℕ) = 0 → (i 1 : ℕ) = m →
      (k : ℕ) = n + 16 → maxRow f u (BitVec.ofNat 32 n) i
        = (chan c (fun p => u (ix2 p m)) (fun p => w (ix2 p m)) ⟨k / 16, by omega⟩ ⟨k % 16, by omega⟩ : EReal) := by
    intro n hn i h0 h1 hk
    obtain rfl : i = ix2 0 m := by idx_vars i; exact congrArg₂ _ (Fin.ext h0) (Fin.ext h1)
    rw [maxRow_at f u n hn m c hc h ((ho n).imp id And.left)]
    have e1 : (⟨k / 16, by omega⟩ : Fin 3) = 1 := Fin.ext (by show (k : ℕ) / 16 = 1; omega)
    rw [e1]
    simp only [chan]
    rw [top_real c _ hu]; congr 1; omega
  have C : ∀ (n : ℕ) (hn : n < 16) (i : S1x4096.Idx), (i 0 : ℕ) = 0 → (i 1 : ℕ) = m →
      (k : ℕ) = n + 32 → maxRow f w (BitVec.ofNat 32 n) i
        = (chan c (fun p => u (ix2 p m)) (fun p => w (ix2 p m)) ⟨k / 16, by omega⟩ ⟨k % 16, by omega⟩ : EReal) := by
    intro n hn i h0 h1 hk
    obtain rfl : i = ix2 0 m := by idx_vars i; exact congrArg₂ _ (Fin.ext h0) (Fin.ext h1)
    rw [maxRow_at f w n hn m c hc h ((ho n).imp id And.right)]
    have e1 : (⟨k / 16, by omega⟩ : Fin 3) = 2 := Fin.ext (by show (k : ℕ) / 16 = 2; omega)
    rw [e1]
    simp only [chan]
    rw [top_real c _ hw]; congr 1; omega
  unfold stack
  concat_tiles i hj
  · exact A 0 (by norm_num) i (by assumption) (by assumption) hj
  · exact A 1 (by norm_num) i (by assumption) (by assumption) hj
  · exact A 2 (by norm_num) i (by assumption) (by assumption) hj
  · exact A 3 (by norm_num) i (by assumption) (by assumption) hj
  · exact A 4 (by norm_num) i (by assumption) (by assumption) hj
  · exact A 5 (by norm_num) i (by assumption) (by assumption) hj
  · exact A 6 (by norm_num) i (by assumption) (by assumption) hj
  · exact A 7 (by norm_num) i (by assumption) (by assumption) hj
  · exact A 8 (by norm_num) i (by assumption) (by assumption) hj
  · exact A 9 (by norm_num) i (by assumption) (by assumption) hj
  · exact A 10 (by norm_num) i (by assumption) (by assumption) hj
  · exact A 11 (by norm_num) i (by assumption) (by assumption) hj
  · exact A 12 (by norm_num) i (by assumption) (by assumption) hj
  · exact A 13 (by norm_num) i (by assumption) (by assumption) hj
  · exact A 14 (by norm_num) i (by assumption) (by assumption) hj
  · exact A 15 (by norm_num) i (by assumption) (by assumption) hj
  · exact B 0 (by norm_num) i (by assumption) (by assumption) hj
  · exact B 1 (by norm_num) i (by assumption) (by assumption) hj
  · exact B 2 (by norm_num) i (by assumption) (by assumption) hj
  · exact B 3 (by norm_num) i (by assumption) (by assumption) hj
  · exact B 4 (by norm_num) i (by assumption) (by assumption) hj
  · exact B 5 (by norm_num) i (by assumption) (by assumption) hj
  · exact B 6 (by norm_num) i (by assumption) (by assumption) hj
  · exact B 7 (by norm_num) i (by assumption) (by assumption) hj
  · exact B 8 (by norm_num) i (by assumption) (by assumption) hj
  · exact B 9 (by norm_num) i (by assumption) (by assumption) hj
  · exact B 10 (by norm_num) i (by assumption) (by assumption) hj
  · exact B 11 (by norm_num) i (by assumption) (by assumption) hj
  · exact B 12 (by norm_num) i (by assumption) (by assumption) hj
  · exact B 13 (by norm_num) i (by assumption) (by assumption) hj
  · exact B 14 (by norm_num) i (by assumption) (by assumption) hj
  · exact B 15 (by norm_num) i (by assumption) (by assumption) hj
  · exact C 0 (by norm_num) i (by assumption) (by assumption) hj
  · exact C 1 (by norm_num) i (by assumption) (by assumption) hj
  · exact C 2 (by norm_num) i (by assumption) (by assumption) hj
  · exact C 3 (by norm_num) i (by assumption) (by assumption) hj
  · exact C 4 (by norm_num) i (by assumption) (by assumption) hj
  · exact C 5 (by norm_num) i (by assumption) (by assumption) hj
  · exact C 6 (by norm_num) i (by assumption) (by assumption) hj
  · exact C 7 (by norm_num) i (by assumption) (by assumption) hj
  · exact C 8 (by norm_num) i (by assumption) (by assumption) hj
  · exact C 9 (by norm_num) i (by assumption) (by assumption) hj
  · exact C 10 (by norm_num) i (by assumption) (by assumption) hj
  · exact C 11 (by norm_num) i (by assumption) (by assumption) hj
  · exact C 12 (by norm_num) i (by assumption) (by assumption) hj
  · exact C 13 (by norm_num) i (by assumption) (by assumption) hj
  · exact C 14 (by norm_num) i (by assumption) (by assumption) hj
  · exact C 15 (by norm_num) i (by assumption) (by assumption) hj

end Cert.Proof.KernelVal
-- ==== Proof.Cells.lean ====
module

public import proofs.«01_k».proof.Proof.Gen.KernelIdeal
public import proofs.«01_k».proof.Proof.Gen.KernelIdeal.Skeleton
public import proofs.«01_k».proof.Proof.Gen.KernelIdeal.Frame
public import proofs.«01_k».proof.Proof.Gen.KernelIdeal.Value
public import proofs.«01_k».proof.Proof.KernelVal
public import Idealize.ShloMosaic.Lib.Pipeline.ValueKit
public import Idealize.ShloMosaic.Lib.Pointwise

@[expose] public section

set_option maxRecDepth 16384

noncomputable section

namespace Cert.Proof.KernelVal

open Idealize.ShloMosaic Idealize.ShloMosaic.TcCoe Idealize.SL.Sem
open Cert.KernelIdeal Cert.KernelIdeal.Gen
open Cert.Proof.Geom

theorem bits_four : Ideal.ofBits FTy.f32 1082130432#32 = ((4 : ℝ) : EReal) := by
  simp [Ideal.ofBits, Ideal.ieee, -EReal.coe_mul]; norm_num
theorem bits_two : Ideal.ofBits FTy.f32 1073741824#32 = ((2 : ℝ) : EReal) := by
  simp [Ideal.ofBits, Ideal.ieee, -EReal.coe_mul]; norm_num
theorem bits_three : Ideal.ofBits FTy.f32 1077936128#32 = ((3 : ℝ) : EReal) := by
  simp [Ideal.ofBits, Ideal.ieee, -EReal.coe_mul]; norm_num
theorem bits_top : Ideal.ofBits FTy.f32 2139095040#32 = ⊤ := by simp [Ideal.ofBits, Ideal.ieee]
theorem bits_bot : Ideal.ofBits FTy.f32 4286578688#32 = ⊥ := by simp [Ideal.ofBits, Ideal.ieee]

/-- The width of a bin as the programs compute it: a quarter of the spread, or 1 if that is zero. -/
theorem unit_coe (f : Fin 32 → ℝ) :
    (if Ideal.div ((hi f : EReal) - lo f) ((4 : ℝ) : EReal) = 0 then (1 : EReal)
      else Ideal.div ((hi f : EReal) - lo f) ((4 : ℝ) : EReal)) = (unit f : EReal) := by
  rw [← EReal.coe_sub, Norm.div_coe_coe _ (by norm_num : (4 : ℝ) ≠ 0), unit]
  by_cases h : (hi f - lo f) / 4 = 0
  · rw [if_pos (by rw [h]; rfl), if_pos h]; rfl
  · rw [if_neg (by exact_mod_cast h), if_neg h]

/-- Comparing against a squared edge is comparing the square root against the edge. -/
theorem sq_edge (e q : ℝ) (he : 0 ≤ e) (hq : 0 ≤ q) : e * e ≤ q ↔ e ≤ Real.sqrt q := by
  rw [Real.le_sqrt he hq, sq]

section
variable (l0 l1 : Vec Ideal S1x1x32x4096 .f32) (m : Fin 4096) (X Y : Fin 32 → ℝ)
  (hx : ∀ p, l0 (ix4 0 0 p m) = (X p : EReal)) (hy : ∀ p, l1 (ix4 0 0 p m) = (Y p : EReal))
include hx hy

/-- The squared distances. -/
theorem sq_at (p : Fin 32) : k0_pay6 l0 l1 (ix2 p m) = ((X p * X p + Y p * Y p : ℝ) : EReal) := by
  pointwise [k0_pay6, k0_pay2, k0_pay3]
  rw [hx, hy, ← EReal.coe_mul, ← EReal.coe_mul, ← EReal.coe_add]

/-- The azimuths. -/
theorem ang_at (p : Fin 32) : k0_pay7 l0 l1 (ix2 p m) = (angs X Y p : EReal) := by
  pointwise [k0_pay7, k0_pay2, k0_pay3]
  rw [hx, hy, atan2_coe]; rfl

/-- The least range. -/
theorem rad_lo_at : k0_pay8 l0 l1 (ix2 0 m) = (lo (rads X Y) : EReal) := by
  pointwise [k0_pay8]
  simp only [sq_at l0 l1 m X Y hx hy]
  rw [bits_top, fold_min, Ideal.sqrt_coe, if_neg, sqrt_lo]
  · rfl
  · obtain ⟨p, hp⟩ := exists_lo fun p => X p * X p + Y p * Y p
    rw [← hp]; nlinarith [mul_self_nonneg (X p), mul_self_nonneg (Y p)]

/-- The least azimuth. -/
theorem ang_lo_at : k0_pay9 l0 l1 (ix2 0 m) = (lo (angs X Y) : EReal) := by
  pointwise [k0_pay9]
  simp only [ang_at l0 l1 m X Y hx hy]
  rw [bits_top, fold_min]

/-- The width of a range bin. -/
theorem rad_unit_at : k0_pay11 l0 l1 (ix2 0 m) = (unit (rads X Y) : EReal) := by
  have e : Ideal.sqrt ((hi fun p => X p * X p + Y p * Y p : ℝ) : EReal) = (hi (rads X Y) : EReal) := by
    rw [Ideal.sqrt_coe, if_neg, sqrt_hi]
    · rfl
    · have := le_hi (fun p => X p * X p + Y p * Y p) 0
      nlinarith [mul_self_nonneg (X 0), mul_self_nonneg (Y 0)]
  pointwise [k0_pay11]
  simp only [sq_at l0 l1 m X Y hx hy, rad_lo_at l0 l1 m X Y hx hy]
  rw [bits_bot, fold_max, e, bits_four, unit_coe]

/-- The width of an azimuth bin. -/
theorem ang_unit_at : k0_pay13 (k0_pay10 l0 l1) k0_pay12 (ix2 0 m) = (unit (angs X Y) : EReal) := by
  pointwise [k0_pay13, k0_pay10, k0_pay12]
  simp only [ang_at l0 l1 m X Y hx hy, ang_lo_at l0 l1 m X Y hx hy]
  rw [bits_bot, fold_max, bits_four, unit_coe]

/-- The range bins. -/
theorem rad_bin_at (p : Fin 32) : k0_pay14 (k0_pay6 l0 l1) (k0_pay8 l0 l1) (k0_pay11 l0 l1) (ix2 p m)
    = BitVec.ofNat 32 (bin (rads X Y) p) := by
  have hl : 0 ≤ lo (rads X Y) := by
    obtain ⟨p, hp⟩ := exists_lo (rads X Y)
    rw [← hp]; exact Real.sqrt_nonneg _
  have hu := unit_pos (rads X Y)
  have hq : 0 ≤ X p * X p + Y p * Y p := by nlinarith [mul_self_nonneg (X p), mul_self_nonneg (Y p)]
  have e : ∀ j : ℝ, 0 ≤ j → ((((lo (rads X Y) : ℝ) : EReal) + (j : EReal) * (unit (rads X Y) : EReal))
      * (((lo (rads X Y) : ℝ) : EReal) + (j : EReal) * (unit (rads X Y) : EReal)) ≤ ((X p * X p + Y p * Y p : ℝ) : EReal)
      ↔ lo (rads X Y) + j * unit (rads X Y) ≤ rads X Y p) := by
    intro j hj
    rw [← EReal.coe_mul, ← EReal.coe_add, ← EReal.coe_mul, EReal.coe_le_coe_iff]
    exact sq_edge _ _ (by positivity) hq
  have e1 := e 1 (by norm_num)
  rw [EReal.coe_one, one_mul] at e1
  pointwise [k0_pay14]
  simp only [sq_at l0 l1 m X Y hx hy, rad_lo_at l0 l1 m X Y hx hy, rad_unit_at l0 l1 m X Y hx hy, bits_two, bits_three,
    e1, e 2 (by norm_num), e 3 (by norm_num), bin]
  split_ifs <;> rfl

/-- The cell numbers. -/
theorem cells_at (p : Fin 32) : cells l0 l1 (ix2 p m) = BitVec.ofNat 32 (cell X Y p) := by
  have e : ∀ j : ℝ, ((((lo (angs X Y) : ℝ) : EReal) + (j : EReal) * (unit (angs X Y) : EReal)) ≤ (angs X Y p : EReal)
      ↔ lo (angs X Y) + j * unit (angs X Y) ≤ angs X Y p) := by
    intro j
    rw [← EReal.coe_mul, ← EReal.coe_add, EReal.coe_le_coe_iff]
  have e1 := e 1
  rw [EReal.coe_one, one_mul] at e1
  unfold cells
  pointwise [k0_pay15, k0_pay16, k0_pay17, k0_pay18, k0_pay19]
  simp only [ang_at l0 l1 m X Y hx hy, ang_lo_at l0 l1 m X Y hx hy, ang_unit_at l0 l1 m X Y hx hy,
    rad_bin_at l0 l1 m X Y hx hy, bits_two, bits_three, e1, e 2, e 3, cell]
  have hb := bin_lt (rads X Y) p
  generalize bin (rads X Y) p = b at hb
  unfold bin
  interval_cases b <;> split_ifs <;> rfl

end

/-- The first layer at an element. -/
theorem layer_at (v : FVec Ideal S48x4096 .f32) (a : Vec Ideal S512x48 .f32) (r : Fin 512) (m : Fin 4096) :
    layer v a (ix2 r m) = (∑ x : Fin 48, a (ix2 r x) * v (ix2 x m)) *
      Ideal.rsqrt (Ideal.div (∑ x : Fin 64,
        (∑ y : Fin 48, a (ix2 (⟨r / 64 * 64 + x, by omega⟩ : Fin 512) y) * v (ix2 y m))
          * (∑ y : Fin 48, a (ix2 (⟨r / 64 * 64 + x, by omega⟩ : Fin 512) y) * v (ix2 y m)))
        (Ideal.ofBits FTy.f32 1115684864#32) + Ideal.ofBits FTy.f32 925353388#32) := by
  pointwise [layer]

/-- The second layer at an element. -/
theorem out_at (v : FVec Ideal S512x4096 .f32) (w : Vec Ideal S64x512 .f32) (m : Fin 4096) (o : Fin 64) :
    k0_pay1 v w (ix3 0 m o) = max ((∑ x : Fin 512, w (ix2 o x) * max (v (ix2 x m)) 0) *
      Ideal.rsqrt (Ideal.div (∑ x : Fin 8,
        (∑ y : Fin 512, w (ix2 (⟨o / 8 * 8 + x, by omega⟩ : Fin 64) y) * max (v (ix2 y m)) 0)
          * (∑ y : Fin 512, w (ix2 (⟨o / 8 * 8 + x, by omega⟩ : Fin 64) y) * max (v (ix2 y m)) 0))
        (Ideal.ofBits FTy.f32 1090519040#32) + Ideal.ofBits FTy.f32 925353388#32)) 0 := by
  pointwise [k0_pay1]

end Cert.Proof.KernelVal
-- ==== Proof.Scatter.lean ====
module

public import proofs.«01_k».proof.Proof.Norm
public import proofs.«01_k».proof.Proof.Geom
public import Idealize.ShloMosaic.Lib.StableHlo.Predicate
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference's count of points per cell: a scatter that adds one at each point's cell. -/

namespace Cert.Proof.Scatter

open Idealize.ShloMosaic Idealize.ShloMosaic.TcCoe Idealize.SL.Sem
open Cert.ReferenceIdeal Cert.ReferenceIdeal.Gen
open Cert.Proof.Geom

/-- The scatter's dimension numbers: one index component for each axis of the operand, no window. -/
abbrev dims := scatter_S8x4096x16_S8x4096x32x3_S8x4096x32_n_012_012_3

/-- An update lands at the operand element whose coordinates are its three index words. -/
theorem lands_iff (idx : IVec S8x4096x32x3 32) (j : S8x4096x32.Idx) (i : S8x4096x16.Idx) :
    dims.resultIdx? j idx = some i ↔ ∀ a : Fin 3, (idx (ix4 (j 0) (j 1) (j 2) a)).toInt = ((i a).val : Int) := by
  have hw : ∀ a : Fin 3, dims.window j a = 0 := by
    intro a
    unfold ScatterDims.window
    rw [dif_neg]
    fin_cases a <;> decide
  have hs : ∀ a : Fin 3, dims.start j idx a = (idx (ix4 (j 0) (j 1) (j 2) a)).toInt := by
    intro a
    have hm : a ∈ dims.scatterDimsToOperandDims := by fin_cases a <;> decide
    unfold ScatterDims.start
    rw [dif_pos hm]
    congr 2
    funext b
    fin_cases a <;> fin_cases b <;> rfl
  unfold ScatterDims.resultIdx?
  split_ifs with h
  · rw [Option.some_inj]
    constructor
    · rintro rfl a
      have := h a
      rw [hw, hs] at this
      show _ = (((dims.start j idx a + dims.window j a).toNat : ℕ) : Int)
      rw [hw, hs]; omega
    · intro e
      funext a
      refine Fin.ext ?_
      show (dims.start j idx a + dims.window j a).toNat = _
      have := e a
      rw [hw, hs, this]; omega
  · refine iff_of_false (by simp) fun e => h fun a => ?_
    have := e a
    have hl := (i a).isLt
    rw [hw, hs, this]
    refine ⟨by omega, ?_⟩
    push_cast
    rw [add_zero]
    exact_mod_cast hl

/-- The scatter of ones over zeros counts, for each cell of a group, the points whose cell it is. -/
theorem count_at (idx : IVec S8x4096x32x3 32) (x : FVec Ideal S8x4096x16 .f32) (u : FVec Ideal S8x4096x32 .f32)
    (hx : ∀ i, x i = 0) (hu : ∀ i, u i = 1)
    (h0 : ∀ b m p, idx (ix4 b m p 0) = BitVec.ofNat 32 b) (h1 : ∀ b m p, idx (ix4 b m p 1) = BitVec.ofNat 32 m)
    (b : Fin 8) (m : Fin 4096) (c : Fin 32 → ℕ) (hc : ∀ p, c p < 16)
    (h2 : ∀ p, idx (ix4 b m p 2) = BitVec.ofNat 32 (c p)) (k : Fin 16) :
    Host.scatterAdd (F := Ideal) (φ := .f32) dims x idx u (ix3 b m k) = (cnt c k : EReal) := by
  have small : ∀ n : ℕ, n < 4096 → (BitVec.ofNat 32 n).toInt = (n : Int) := fun n hn =>
    StableHlo.Predicate.toInt_ofNat_small _ (by omega)
  have hl : ∀ j : S8x4096x32.Idx, dims.resultIdx? j idx = some (ix3 b m k) ↔ j = ix3 b m (j 2) ∧ c (j 2) = k := by
    intro j
    rw [lands_iff]
    constructor
    · intro e
      have e0 := (congrArg BitVec.toInt (h0 (j 0) (j 1) (j 2))).symm.trans (e 0)
      have e1 := (congrArg BitVec.toInt (h1 (j 0) (j 1) (j 2))).symm.trans (e 1)
      rw [small _ (by have := (j 0).isLt; exact lt_trans this (by decide))] at e0
      rw [small _ (j 1).isLt] at e1
      have g0 : j 0 = b := Fin.ext (by exact_mod_cast e0)
      have g1 : j 1 = m := Fin.ext (by exact_mod_cast e1)
      refine ⟨?_, ?_⟩
      · funext a
        match a with
        | ⟨0, _⟩ => exact g0
        | ⟨1, _⟩ => exact g1
        | ⟨2, _⟩ => rfl
      · have e2 := e 2
        rw [g0, g1] at e2
        replace e2 := (congrArg BitVec.toInt (h2 (j 2))).symm.trans e2
        rw [small _ (by have := hc (j 2); omega)] at e2
        exact_mod_cast e2
    · rintro ⟨e, ek⟩ a
      have g0 : j 0 = b := congrFun e 0
      have g1 : j 1 = m := congrFun e 1
      rw [g0, g1]
      match a with
      | ⟨0, _⟩ => exact (congrArg _ (h0 b m (j 2))).trans (small _ (by have := b.isLt; omega))
      | ⟨1, _⟩ => exact (congrArg _ (h1 b m (j 2))).trans (small _ m.isLt)
      | ⟨2, _⟩ => exact (congrArg _ (h2 (j 2))).trans ((small _ (by have := hc (j 2); omega)).trans (congrArg _ ek))
  change x (ix3 b m k) + ∑ j ∈ Finset.univ.filter (fun j => dims.resultIdx? j idx = some (ix3 b m k)), u j = _
  rw [hx, zero_add, cnt, Norm.coe_sum]
  have e : ∀ p, (((if c p = k then 1 else 0 : ℝ)) : EReal) = if c p = k then (1 : EReal) else 0 := by
    intro p; split_ifs <;> rfl
  rw [Finset.sum_congr rfl fun p _ => e p, ← Finset.sum_filter]
  refine Finset.sum_nbij' (fun j => j 2) (fun p => ix3 b m p) ?_ ?_ ?_ ?_ ?_
  · intro j hj
    rw [Finset.mem_filter] at hj
    exact Finset.mem_filter.2 ⟨Finset.mem_univ _, ((hl j).1 hj.2).2⟩
  · intro p hp
    rw [Finset.mem_filter] at hp
    exact Finset.mem_filter.2 ⟨Finset.mem_univ _, (hl _).2 ⟨rfl, hp.2⟩⟩
  · intro j hj
    rw [Finset.mem_filter] at hj
    exact ((hl j).1 hj.2).1.symm
  · intro p hp; rfl
  · intro j hj; exact hu j

end Cert.Proof.Scatter
-- ==== Proof.RefCells.lean ====
module

public import proofs.«01_k».proof.Proof.Cells
public import proofs.«01_k».proof.Proof.Scatter
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference's range and azimuth, the bins and the cells of the points. -/

namespace Cert.Proof.RefCells

open Idealize.ShloMosaic Idealize.ShloMosaic.TcCoe Idealize.SL.Sem
open Cert.Proof Cert.Proof.Geom
open Cert.ReferenceIdeal Cert.ReferenceIdeal.Gen Cert.ReferenceIdeal.Read

/-- The absolute value of a real. -/
theorem absf_coe (x : ℝ) : FloatOps.absf (F := Ideal) (φ := .f32) (x : EReal) = ((|x| : ℝ) : EReal) := by
  change max (x : EReal) (-(x : EReal)) = _
  rw [← EReal.coe_neg, ← EReal.coe_strictMono.monotone.map_max]; rfl

/-- The scaled form of the distance: the larger coordinate times the root of one plus the squared ratio. -/
theorem scaled_rad (x y : ℝ) (h : max |x| |y| ≠ 0) :
    max |x| |y| * Real.sqrt (1 + min |x| |y| / max |x| |y| * (min |x| |y| / max |x| |y|)) = rad x y := by
  have h0 : 0 ≤ max |x| |y| := (abs_nonneg x).trans (le_max_left _ _)
  have e : max |x| |y| * max |x| |y| + min |x| |y| * min |x| |y| = x * x + y * y := by
    rcases le_total |x| |y| with hxy | hxy
    · rw [max_eq_right hxy, min_eq_left hxy, abs_mul_abs_self, abs_mul_abs_self, add_comm]
    · rw [max_eq_left hxy, min_eq_right hxy, abs_mul_abs_self, abs_mul_abs_self]
  rw [rad, ← e]
  generalize max |x| |y| = M at *
  generalize min |x| |y| = N at *
  rw [show M * M + N * N = M * M * (1 + N / M * (N / M)) by field_simp, Real.sqrt_mul (mul_self_nonneg M),
    Real.sqrt_mul_self h0]

/-- The scale of a bin: 1 in place of 0. -/
theorem nonzero_or_one (z : EReal) : Scalar.select (FloatOps.cmpf (F := Ideal) (φ := .f32) .oeq z (FloatOps.ofBits .f32 0#32))
    (FloatOps.ofBits (F := Ideal) .f32 1065353216#32) z = if z = 0 then (1 : EReal) else z := by
  have e0 : FloatOps.ofBits (F := Ideal) .f32 0#32 = (0 : EReal) := by
    change Ideal.ofBits .f32 0#32 = 0
    simp [Ideal.ofBits, Ideal.ieee]
  have e1 : FloatOps.ofBits (F := Ideal) .f32 1065353216#32 = (1 : EReal) := by
    change Ideal.ofBits .f32 1065353216#32 = 1
    simp [Ideal.ofBits, Ideal.ieee, -EReal.coe_mul]; norm_num
  rw [e0, e1]
  change Scalar.select (Ideal.cmp .oeq z 0) 1 z = _
  by_cases h : z = 0
  · rw [if_pos h, h]; simp [Scalar.select, Ideal.cmp]
  · rw [if_neg h]; simp [Scalar.select, Ideal.cmp, h]

/-- The word of a bin: the floor of the scaled distance, the top edge moved into the last bin. -/
theorem bin_word (f : Fin 32 → ℝ) (p : Fin 32) :
    IntOp.minsi 3#32 (IntOp.maxsi 0#32 (Scalar.select
      (IntOp.cmpi .eq (FloatOps.fptosi (F := Ideal) (φ := .f32) 32 (Ideal.liftRound Int.floor (((f p - lo f) / unit f : ℝ) : EReal))) 4#32) 3#32
      (FloatOps.fptosi (F := Ideal) (φ := .f32) 32 (Ideal.liftRound Int.floor (((f p - lo f) / unit f : ℝ) : EReal)))))
      = BitVec.ofNat 32 (bin f p) := by
  have hf : ∀ z : ℝ, 0 ≤ z ∧ z ≤ 4 → FloatOps.fptosi (F := Ideal) (φ := .f32) 32 (Ideal.liftRound Int.floor (z : EReal)) = BitVec.ofInt 32 ⌊z⌋ := by
    intro z hz
    change Ideal.fptosi 32 (Ideal.liftRound Int.floor (z : EReal)) = _
    have h0 : 0 ≤ ⌊z⌋ := Int.floor_nonneg.2 hz.1
    have h4 : ⌊z⌋ ≤ 4 := by
      have : (⌊z⌋ : ℝ) ≤ 4 := (Int.floor_le z).trans hz.2
      exact_mod_cast this
    rw [Ideal.fptosi, Ideal.liftRound_coe, Ideal.toIntClamped_coe, if_pos (by exact_mod_cast h0), Int.floor_intCast]
    congr 1
    rw [min_eq_right (by norm_num; omega), max_eq_right (by norm_num; omega)]
  rw [hf _ (scaled_mem f p)]
  have hb := bin_lt f p
  have h1 := floor_scaled f p
  have h2 := bin_of_floor_four f p
  generalize ⌊(f p - lo f) / unit f⌋ = z at *
  generalize bin f p = n at *
  by_cases hz : z = 4
  · rw [h2 hz, hz]; decide
  · rw [if_neg hz] at h1
    rw [h1]
    interval_cases n <;> decide

section
variable (x0 : FVec Ideal S8x4096x32x6 .f32) (b : Fin 8) (m : Fin 4096) (X Y : Fin 32 → ℝ)
  (hx : ∀ p, x0 (ix4 b m p 0) = (X p : EReal)) (hy : ∀ p, x0 (ix4 b m p 1) = (Y p : EReal))
include hx hy

/-- The range of a point. -/
theorem rad_at (p : Fin 32) : val_main_v8 (F := Ideal) x0 (ix3 b m p) = (rads X Y p : EReal) := by
  pointwise [val_main_v4, val_main_v5, val_main_v6, val_main_v7, val_main_call0_v0, val_main_call0_v1, val_main_call0_cst, val_main_call0_v2, val_main_call0_v3, val_main_call0_cst_0, val_main_call0_v4, val_main_call0_v5, val_main_call0_v6, val_main_call0_v7, val_main_call0_v8, val_main_call0_cst_1, val_main_call0_v9, val_main_call0_v10, val_main_call0_cst_2, val_main_call0_v11, val_main_call0_v12, val_main_call0_cst_3, val_main_call0_v13, val_main_call0_v14, val_main_call0_v15, val_main_call0_v16, val_main_call0_cst_4, val_main_call0_v17, val_main_call0_v18, val_main_call0_v19, val_main_call0_v20, val_main_call0_v21, val_main_call0_cst_5, val_main_call0_call2_v0, val_main_v8]
  rw [hx, hy, absf_coe, absf_coe, KernelVal.bits_top, ← EReal.coe_strictMono.monotone.map_max, ← EReal.coe_strictMono.monotone.map_min]
  rw [decide_eq_false (EReal.coe_ne_top _), decide_eq_false (EReal.coe_ne_top _)]
  have hs : ∀ z : EReal, Scalar.select (IntOp.ori (BitVec.ofBool false) (BitVec.ofBool false)) (⊤ : EReal) z = z := fun z => rfl
  rw [hs]
  by_cases h : max |X p| |Y p| = 0
  · have hc : ((max |X p| |Y p| : ℝ) : EReal) = 0 := by rw [h]; rfl
    rw [if_pos hc, h]
    have h1 : |X p| ≤ 0 := h ▸ le_max_left _ _
    have h2 : |Y p| ≤ 0 := h ▸ le_max_right _ _
    have e1 := abs_nonpos_iff.1 h1
    have e2 := abs_nonpos_iff.1 h2
    simp [rads, rad, e1, e2]
  · have hc : ((max |X p| |Y p| : ℝ) : EReal) ≠ 0 := by exact_mod_cast h
    rw [if_neg hc, if_neg hc, Norm.div_coe_coe _ h, ← EReal.coe_mul, ← EReal.coe_one, ← EReal.coe_add, Ideal.sqrt_coe,
      if_neg (not_lt.2 (by positivity)), ← EReal.coe_mul, scaled_rad _ _ h]
    rfl

/-- The azimuth of a point. -/
theorem ang_at (p : Fin 32) : val_main_v9 (F := Ideal) x0 (ix3 b m p) = (angs X Y p : EReal) := by
  pointwise [val_main_v4, val_main_v5, val_main_v6, val_main_v7, val_main_v9]
  rw [hx, hy, atan2_coe]; rfl

/-- The least range. -/
theorem rad_lo_at : val_main_v10 (F := Ideal) x0 (ix2 b m) = (lo (rads X Y) : EReal) := by
  pointwise [val_main_cst, val_main_v10]
  simp only [rad_at x0 b m X Y hx hy]
  rw [KernelVal.bits_top, fold_min]

/-- The greatest range. -/
theorem rad_hi_at : val_main_v11 (F := Ideal) x0 (ix2 b m) = (hi (rads X Y) : EReal) := by
  pointwise [val_main_cst_0, val_main_v11]
  simp only [rad_at x0 b m X Y hx hy]
  rw [KernelVal.bits_bot, fold_max]

/-- The least azimuth. -/
theorem ang_lo_at : val_main_v12 (F := Ideal) x0 (ix2 b m) = (lo (angs X Y) : EReal) := by
  pointwise [val_main_cst_1, val_main_v12]
  simp only [ang_at x0 b m X Y hx hy]
  rw [KernelVal.bits_top, fold_min]

/-- The greatest azimuth. -/
theorem ang_hi_at : val_main_v13 (F := Ideal) x0 (ix2 b m) = (hi (angs X Y) : EReal) := by
  pointwise [val_main_cst_2, val_main_v13]
  simp only [ang_at x0 b m X Y hx hy]
  rw [KernelVal.bits_bot, fold_max]

/-- The width of a range bin. -/
theorem rad_unit_at : val_main_v22 (F := Ideal) x0 (ix2 b m) = (unit (rads X Y) : EReal) := by
  rw [val_main_v22_apply, val_main_v21_apply, val_main_v20_apply, val_main_cst_5_apply, val_main_call1_v1_apply, val_main_call1_v0_apply, val_main_cst_6_apply]
  refine (nonzero_or_one _).trans ?_
  rw [val_main_v16_apply, val_main_v15_apply, val_main_cst_3_apply, val_main_v14_apply, rad_lo_at x0 b m X Y hx hy,
    rad_hi_at x0 b m X Y hx hy]
  have e := KernelVal.unit_coe (rads X Y)
  rw [← KernelVal.bits_four] at e
  exact e

/-- The width of an azimuth bin. -/
theorem ang_unit_at : val_main_v25 (F := Ideal) x0 (ix2 b m) = (unit (angs X Y) : EReal) := by
  rw [val_main_v25_apply, val_main_v24_apply, val_main_v23_apply, val_main_cst_7_apply, val_main_call2_v1_apply, val_main_call2_v0_apply, val_main_cst_8_apply]
  refine (nonzero_or_one _).trans ?_
  rw [val_main_v19_apply, val_main_v18_apply, val_main_cst_4_apply, val_main_v17_apply, ang_lo_at x0 b m X Y hx hy,
    ang_hi_at x0 b m X Y hx hy]
  have e := KernelVal.unit_coe (angs X Y)
  rw [← KernelVal.bits_four] at e
  exact e

/-- The range's distance from the least one, in bins. -/
theorem rad_scaled_at (p : Fin 32) : val_main_v31 (F := Ideal) x0 (ix3 b m p)
    = (((rads X Y p - lo (rads X Y)) / unit (rads X Y) : ℝ) : EReal) := by
  pointwise [val_main_v26, val_main_v27, val_main_v28, val_main_v29, val_main_v30, val_main_v31]
  rw [rad_at x0 b m X Y hx hy, rad_lo_at x0 b m X Y hx hy, rad_unit_at x0 b m X Y hx hy, ← EReal.coe_sub,
    Norm.div_coe_coe _ (unit_pos _).ne']

/-- The azimuth's distance from the least one, in bins. -/
theorem ang_scaled_at (p : Fin 32) : val_main_v39 (F := Ideal) x0 (ix3 b m p)
    = (((angs X Y p - lo (angs X Y)) / unit (angs X Y) : ℝ) : EReal) := by
  pointwise [val_main_v34, val_main_v35, val_main_v36, val_main_v37, val_main_v38, val_main_v39]
  rw [ang_at x0 b m X Y hx hy, ang_lo_at x0 b m X Y hx hy, ang_unit_at x0 b m X Y hx hy, ← EReal.coe_sub,
    Norm.div_coe_coe _ (unit_pos _).ne']

/-- The range bin of a point. -/
theorem rad_bin_at (p : Fin 32) : val_main_v45 (F := Ideal) x0 (ix3 b m p) = BitVec.ofNat 32 (bin (rads X Y) p) := by
  have e : val_main_v33 (F := Ideal) x0 (ix3 b m p) = FloatOps.fptosi (F := Ideal) (φ := .f32) 32
      (Ideal.liftRound Int.floor (((rads X Y p - lo (rads X Y)) / unit (rads X Y) : ℝ) : EReal)) := by
    rw [val_main_v33_apply, val_main_v32_apply, rad_scaled_at x0 b m X Y hx hy]; rfl
  pointwise [val_main_c, val_main_v42, val_main_v43, val_main_c_9, val_main_call3_v0, val_main_call3_v1, val_main_v44, val_main_c_10, val_main_c_11, val_main_call4_v0, val_main_call4_v1, val_main_call4_v2, val_main_call4_v3, val_main_call4_v4, val_main_v45]
  rw [e]
  exact bin_word (rads X Y) p

/-- The azimuth bin of a point. -/
theorem ang_bin_at (p : Fin 32) : val_main_v49 (F := Ideal) x0 (ix3 b m p) = BitVec.ofNat 32 (bin (angs X Y) p) := by
  have e : val_main_v41 (F := Ideal) x0 (ix3 b m p) = FloatOps.fptosi (F := Ideal) (φ := .f32) 32
      (Ideal.liftRound Int.floor (((angs X Y p - lo (angs X Y)) / unit (angs X Y) : ℝ) : EReal)) := by
    rw [val_main_v41_apply, val_main_v40_apply, ang_scaled_at x0 b m X Y hx hy]; rfl
  pointwise [val_main_c_12, val_main_v46, val_main_v47, val_main_c_13, val_main_call5_v0, val_main_call5_v1, val_main_v48, val_main_c_14, val_main_c_15, val_main_call6_v0, val_main_call6_v1, val_main_call6_v2, val_main_call6_v3, val_main_call6_v4, val_main_v49]
  rw [e]
  exact bin_word (angs X Y) p

/-- The cell of a point. -/
theorem cell_at (p : Fin 32) : val_main_v52 (F := Ideal) x0 (ix3 b m p) = BitVec.ofNat 32 (cell X Y p) := by
  pointwise [val_main_c_16, val_main_v50, val_main_v51, val_main_v52]
  rw [rad_bin_at x0 b m X Y hx hy, ang_bin_at x0 b m X Y hx hy, cell]
  have h1 := bin_lt (rads X Y) p
  have h2 := bin_lt (angs X Y) p
  generalize bin (rads X Y) p = n at *
  generalize bin (angs X Y) p = k at *
  interval_cases n <;> interval_cases k <;> decide

end

end Cert.Proof.RefCells
-- ==== Proof.RefGrid.lean ====
module

public import proofs.«01_k».proof.Proof.RefCells
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference's grid map: the counts and the two maxima of the cells. -/

namespace Cert.Proof.RefGrid

open Idealize.ShloMosaic Idealize.ShloMosaic.TcCoe Idealize.SL.Sem
open Cert.Proof Cert.Proof.Geom
open Cert.ReferenceIdeal Cert.ReferenceIdeal.Gen Cert.ReferenceIdeal.Read

/-- An index word that is not negative is left as it is. -/
theorem wrap (n : ℕ) (hn : n < 4096) (w : BitVec 32) :
    Scalar.select (IntOp.cmpi .slt (BitVec.ofNat 32 n) 0#32) w (BitVec.ofNat 32 n) = BitVec.ofNat 32 n := by
  have h : (BitVec.ofNat 32 n).toInt = (n : Int) := StableHlo.Predicate.toInt_ofNat_small _ (by omega)
  have e : IntOp.cmpi .slt (BitVec.ofNat 32 n) 0#32 = 0#1 := by
    have : (BitVec.ofNat 32 n).slt 0#32 = false := by
      rw [BitVec.slt_eq_decide, h]; simp
    simp [IntOp.cmpi, this]
  rw [e]; rfl

/-- The maximum of 0 and the values of the points whose cell word is `k`. -/
theorem masked_max (c : Fin 32 → ℕ) (hc : ∀ p, c p < 16) (w : Fin 32 → EReal) (k : Fin 16) :
    max 0 (Finset.fold max (⊥ : EReal) (fun p => Scalar.select (IntOp.cmpi .eq (BitVec.ofNat 32 (c p)) (BitVec.ofNat 32 k)) (w p) ⊥)
      Finset.univ) = top c w k := by
  have e : ∀ p, Scalar.select (IntOp.cmpi .eq (BitVec.ofNat 32 (c p)) (BitVec.ofNat 32 k)) (w p) (⊥ : EReal)
      = if c p = k then w p else ⊥ := by
    intro p
    have h : (BitVec.ofNat 32 (c p) = BitVec.ofNat 32 (k : ℕ)) ↔ c p = k := by
      constructor
      · intro e
        have := congrArg BitVec.toNat e
        have h1 := hc p
        have h2 := k.isLt
        rw [BitVec.toNat_ofNat, BitVec.toNat_ofNat, Nat.mod_eq_of_lt (by omega), Nat.mod_eq_of_lt (by omega)] at this
        exact this
      · intro e; rw [e]
    by_cases hp : c p = k
    · rw [if_pos hp, hp]; simp [Scalar.select, IntOp.cmpi]
    · rw [if_neg hp]
      have : ¬ (BitVec.ofNat 32 (c p) = BitVec.ofNat 32 (k : ℕ)) := fun e => hp (h.1 e)
      simp only [Scalar.select, IntOp.cmpi, beq_eq_false_iff_ne.2 this]; rfl
  simp only [e]
  refine eq_of_forall_ge_iff fun a => ?_
  rw [max_le_iff, Finset.fold_max_le, Geom.le_top]
  simp only [bot_le, true_and, Finset.mem_univ, forall_const]
  refine and_congr_right fun h0 => forall_congr' fun p => ?_
  split_ifs
  · exact Iff.rfl
  · exact iff_of_true bot_le h0

section
variable (x0 : FVec Ideal S8x4096x32x6 .f32) (b : Fin 8) (m : Fin 4096) (X Y : Fin 32 → ℝ)
  (hx : ∀ p, x0 (ix4 b m p 0) = (X p : EReal)) (hy : ∀ p, x0 (ix4 b m p 1) = (Y p : EReal))

/-- The first component of a point's index is its batch. -/
theorem word0 (b : Fin 8) (m : Fin 4096) (p : Fin 32) : val_main_v78 (F := Ideal) x0 (ix4 b m p 0) = BitVec.ofNat 32 b := by
  pointwise [val_main_v53, val_main_v54, val_main_v55, val_main_v56, val_main_v57, val_main_v58, val_main_c_18, val_main_v60, val_main_v61, val_main_c_19, val_main_v62, val_main_v63, val_main_v64, val_main_c_20, val_main_v65, val_main_v66, val_main_c_21, val_main_v67, val_main_v68, val_main_v69, val_main_c_22, val_main_v70, val_main_v71, val_main_c_23, val_main_v72, val_main_v73, val_main_v74, val_main_v75, val_main_v76, val_main_v77, val_main_v78]
  exact wrap b (by omega) _

/-- The second component of a point's index is its group. -/
theorem word1 (b : Fin 8) (m : Fin 4096) (p : Fin 32) : val_main_v78 (F := Ideal) x0 (ix4 b m p 1) = BitVec.ofNat 32 m := by
  pointwise [val_main_v53, val_main_v54, val_main_v55, val_main_v56, val_main_v57, val_main_v58, val_main_c_18, val_main_v60, val_main_v61, val_main_c_19, val_main_v62, val_main_v63, val_main_v64, val_main_c_20, val_main_v65, val_main_v66, val_main_c_21, val_main_v67, val_main_v68, val_main_v69, val_main_c_22, val_main_v70, val_main_v71, val_main_c_23, val_main_v72, val_main_v73, val_main_v74, val_main_v75, val_main_v76, val_main_v77, val_main_v78]
  exact wrap m m.isLt _

include hx hy

/-- The third component of a point's index is its cell. -/
theorem word2 (p : Fin 32) : val_main_v78 (F := Ideal) x0 (ix4 b m p 2) = BitVec.ofNat 32 (cell X Y p) := by
  pointwise [val_main_v53, val_main_v54, val_main_v55, val_main_v56, val_main_v57, val_main_v58, val_main_c_18, val_main_v60, val_main_v61, val_main_c_19, val_main_v62, val_main_v63, val_main_v64, val_main_c_20, val_main_v65, val_main_v66, val_main_c_21, val_main_v67, val_main_v68, val_main_v69, val_main_c_22, val_main_v70, val_main_v71, val_main_c_23, val_main_v72, val_main_v73, val_main_v74, val_main_v75, val_main_v76, val_main_v77, val_main_v78]
  rw [RefCells.cell_at x0 b m X Y hx hy]
  exact wrap _ (by have := cell_lt X Y p; omega) _

/-- The number of points in a cell. -/
theorem count_at (k : Fin 16) : val_main_v80 (F := Ideal) x0 (ix3 b m k) = (cnt (cell X Y) k : EReal) := by
  unfold val_main_v80
  refine Scatter.count_at _ _ _ (fun i => ?_) (fun i => ?_) (word0 x0) (word1 x0) b m (cell X Y) (cell_lt X Y)
    (word2 x0 b m X Y hx hy) k
  · rw [val_main_v59_apply, val_main_cst_17_apply]
    change Ideal.ofBits .f32 0#32 = 0
    simp [Ideal.ofBits, Ideal.ieee]
  · rw [val_main_v79_apply, val_main_cst_24_apply]
    change Ideal.ofBits .f32 1065353216#32 = 1
    simp [Ideal.ofBits, Ideal.ieee, -EReal.coe_mul]; norm_num

/-- Whether a point lies in a cell, as a word. -/
theorem mask_at (p : Fin 32) (k : Fin 16) : val_main_v86 (F := Ideal) x0 (ix4 b m p k)
    = IntOp.cmpi .eq (BitVec.ofNat 32 (cell X Y p)) (BitVec.ofNat 32 k) := by
  pointwise [val_main_v81, val_main_v82, val_main_v83, val_main_v84, val_main_v85, val_main_v86]
  rw [RefCells.cell_at x0 b m X Y hx hy]

/-- The values of the first maximised channel, negative infinity outside the cell. -/
theorem masked1_at (p : Fin 32) (k : Fin 16) : val_main_v89 (F := Ideal) x0 (ix4 b m p k)
    = Scalar.select (IntOp.cmpi .eq (BitVec.ofNat 32 (cell X Y p)) (BitVec.ofNat 32 k)) (x0 (ix4 b m p 3)) (⊥ : EReal) := by
  have e : val_main_v88 (F := Ideal) x0 (ix4 b m p k) = val_main_v1 (F := Ideal) x0 (ix3 b m p) := by
    pointwise [val_main_v87, val_main_v88]
  have e1 : val_main_v1 (F := Ideal) x0 (ix3 b m p) = x0 (ix4 b m p 3) := by
    pointwise [val_main_v0, val_main_v1]
  pointwise [val_main_cst_25, val_main_call7_v0, val_main_v89]
  rw [mask_at x0 b m X Y hx hy, e, e1, KernelVal.bits_bot]

/-- The values of the second maximised channel, negative infinity outside the cell. -/
theorem masked2_at (p : Fin 32) (k : Fin 16) : val_main_v95 (F := Ideal) x0 (ix4 b m p k)
    = Scalar.select (IntOp.cmpi .eq (BitVec.ofNat 32 (cell X Y p)) (BitVec.ofNat 32 k)) (x0 (ix4 b m p 5)) (⊥ : EReal) := by
  have e : val_main_v94 (F := Ideal) x0 (ix4 b m p k) = val_main_v3 (F := Ideal) x0 (ix3 b m p) := by
    pointwise [val_main_v93, val_main_v94]
  have e1 : val_main_v3 (F := Ideal) x0 (ix3 b m p) = x0 (ix4 b m p 5) := by
    pointwise [val_main_v2, val_main_v3]
  pointwise [val_main_cst_28, val_main_call8_v0, val_main_v95]
  rw [mask_at x0 b m X Y hx hy, e, e1, KernelVal.bits_bot]

/-- The first maximum of a cell. -/
theorem max1_at (k : Fin 16) : val_main_v92 (F := Ideal) x0 (ix3 b m k) = top (cell X Y) (fun p => x0 (ix4 b m p 3)) k := by
  have e : val_main_v90 (F := Ideal) x0 (ix3 b m k) = Finset.fold max (⊥ : EReal) (fun p =>
      Scalar.select (IntOp.cmpi .eq (BitVec.ofNat 32 (cell X Y p)) (BitVec.ofNat 32 k)) (x0 (ix4 b m p 3)) ⊥) Finset.univ := by
    pointwise [val_main_cst_26, val_main_v90]
    simp only [masked1_at x0 b m X Y hx hy]
    rw [KernelVal.bits_bot]
  rw [val_main_v92_apply, val_main_v91_apply, val_main_cst_27_apply, e, ← masked_max _ (cell_lt X Y)]
  have z : FloatOps.ofBits (F := Ideal) .f32 0#32 = (0 : EReal) := by
    change Ideal.ofBits .f32 0#32 = 0
    simp [Ideal.ofBits, Ideal.ieee]
  rw [z]; rfl

/-- The second maximum of a cell. -/
theorem max2_at (k : Fin 16) : val_main_v98 (F := Ideal) x0 (ix3 b m k) = top (cell X Y) (fun p => x0 (ix4 b m p 5)) k := by
  have e : val_main_v96 (F := Ideal) x0 (ix3 b m k) = Finset.fold max (⊥ : EReal) (fun p =>
      Scalar.select (IntOp.cmpi .eq (BitVec.ofNat 32 (cell X Y p)) (BitVec.ofNat 32 k)) (x0 (ix4 b m p 5)) ⊥) Finset.univ := by
    pointwise [val_main_cst_29, val_main_v96]
    simp only [masked2_at x0 b m X Y hx hy]
    rw [KernelVal.bits_bot]
  rw [val_main_v98_apply, val_main_v97_apply, val_main_cst_30_apply, e, ← masked_max _ (cell_lt X Y)]
  have z : FloatOps.ofBits (F := Ideal) .f32 0#32 = (0 : EReal) := by
    change Ideal.ofBits .f32 0#32 = 0
    simp [Ideal.ofBits, Ideal.ieee]
  rw [z]; rfl

/-- The grid map: at every channel and cell the count or one of the maxima, as reals if no maximised value is
    positive infinity. -/
theorem grid_at (hu : ∀ p, x0 (ix4 b m p 3) < ⊤) (hw : ∀ p, x0 (ix4 b m p 5) < ⊤) (ch : Fin 3) (k : Fin 16) :
    val_main_v102 (F := Ideal) x0 (ix4 b m ch k)
      = (chan (cell X Y) (fun p => x0 (ix4 b m p 3)) (fun p => x0 (ix4 b m p 5)) ch k : EReal) := by
  pointwise [val_main_v99, val_main_v100, val_main_v101, val_main_v102]
  rw [count_at x0 b m X Y hx hy, max1_at x0 b m X Y hx hy, max2_at x0 b m X Y hx hy]
  fin_cases ch
  · rfl
  · exact (top_real _ _ hu k).symm
  · exact (top_real _ _ hw k).symm

end

end Cert.Proof.RefGrid
-- ==== Proof.Layers.lean ====
module

public import proofs.«01_k».proof.Proof.Norm
public import Idealize.ShloMosaic.Lib.Pipeline.ValueKit
public import Idealize.ShloMosaic.Lib.Pointwise

@[expose] public section

set_option maxRecDepth 16384

noncomputable section

/-! The two layers: a product with weights, centred over a group of rows and divided by the group's deviation, on the
    kernel's side with the centring moved into the weights. -/

namespace Cert.Proof.Layers

open Idealize.ShloMosaic
open Cert.Proof

/-- A sum over a flat index is a double sum over its quotient and its remainder. -/
theorem sum_flat (N J T : ℕ) (h : N = J * T) (hT : 0 < T) (F : Fin J → Fin T → EReal) :
    ∑ k : Fin N, F ⟨k / T, Nat.div_lt_of_lt_mul (k.2.trans_eq (h.trans (Nat.mul_comm J T)))⟩
      ⟨k % T, Nat.mod_lt _ hT⟩ = ∑ x, ∑ y, F x y := by
  subst h
  rw [Fin.sum_univ_tiles J T rfl]
  refine Finset.sum_congr rfl fun x _ => Finset.sum_congr rfl fun y _ => ?_
  congr 1
  · exact Fin.ext (by dsimp only; rw [Nat.mul_comm, Nat.mul_add_div hT, Nat.div_eq_of_lt y.2, Nat.add_zero])
  · exact Fin.ext (by dsimp only; rw [Nat.mul_comm, Nat.mul_add_mod, Nat.mod_eq_of_lt y.2])

/-- The same over three digits, for the 64 rows of a group. -/
theorem sum64 (F : Fin 4 → Fin 4 → Fin 4 → EReal) :
    ∑ r : Fin 64, F ⟨r / 16, by omega⟩ ⟨r / 4 % 4, by omega⟩ ⟨r % 4, by omega⟩ = ∑ x, ∑ y, ∑ z, F x y z := by
  have e := sum_flat 64 4 16 rfl (by norm_num) fun x t => F x ⟨t / 4, by omega⟩ ⟨t % 4, by omega⟩
  have e2 : ∀ x, ∑ t : Fin 16, F x ⟨t / 4, by omega⟩ ⟨t % 4, by omega⟩ = ∑ y, ∑ z, F x y z :=
    fun x => sum_flat 16 4 4 rfl (by norm_num) fun y z => F x y z
  rw [← Finset.sum_congr rfl fun x _ => e2 x, ← e]
  refine Finset.sum_congr rfl fun r _ => ?_
  congr 1 <;> exact Fin.ext (by dsimp only; omega)

/-- The same over three digits, for the 512 inputs of the second layer. -/
theorem sum512 (F : Fin 32 → Fin 4 → Fin 4 → EReal) :
    ∑ r : Fin 512, F ⟨r / 16, by omega⟩ ⟨r / 4 % 4, by omega⟩ ⟨r % 4, by omega⟩ = ∑ x, ∑ y, ∑ z, F x y z := by
  have e := sum_flat 512 32 16 rfl (by norm_num) fun x t => F x ⟨t / 4, by omega⟩ ⟨t % 4, by omega⟩
  have e2 : ∀ x, ∑ t : Fin 16, F x ⟨t / 4, by omega⟩ ⟨t % 4, by omega⟩ = ∑ y, ∑ z, F x y z :=
    fun x => sum_flat 16 4 4 rfl (by norm_num) fun y z => F x y z
  rw [← Finset.sum_congr rfl fun x _ => e2 x, ← e]
  refine Finset.sum_congr rfl fun r _ => ?_
  congr 1 <;> exact Fin.ext (by dsimp only; omega)

/-- The first layer's weights spread over the 16 cells: row `16 c + p` meets column `16 ch + p'` only if `p = p'`. -/
def kron (w : Fin 32 → Fin 3 → EReal) (r : Fin 512) (k : Fin 48) : EReal :=
  w ⟨r / 16, by omega⟩ ⟨k / 16, by omega⟩ * if (r : ℕ) % 16 = k % 16 then 1 else 0

/-- A product with the spread weights is, at row `16 c + p`, the product over the channels at cell `p`. -/
theorem kron_sum (w : Fin 32 → Fin 3 → EReal) (D : Fin 3 → Fin 16 → ℝ) (r : Fin 512) :
    ∑ k : Fin 48, kron w r k * (D ⟨k / 16, by omega⟩ ⟨k % 16, by omega⟩ : EReal)
      = ∑ ch, (D ch ⟨r % 16, by omega⟩ : EReal) * w ⟨r / 16, by omega⟩ ch := by
  have e := sum_flat 48 3 16 rfl (by norm_num)
    fun ch (y : Fin 16) => (w ⟨r / 16, by omega⟩ ch * if (r : ℕ) % 16 = y then 1 else 0) * (D ch y : EReal)
  refine Eq.trans ?_ (e.trans (Finset.sum_congr rfl fun ch _ => ?_))
  · rfl
  · rw [Finset.sum_eq_single (⟨r % 16, by omega⟩ : Fin 16)]
    · rw [if_pos rfl, mul_one, mul_comm]
    · intro y _ hy
      rw [if_neg (fun h => hy (Fin.ext h.symm)), mul_zero, zero_mul]
    · intro h; exact absurd (Finset.mem_univ _) h

/-- The weights less their mean over the group of 64 rows. -/
def centred1 (w : Fin 32 → Fin 3 → EReal) (r : Fin 512) (k : Fin 48) : EReal :=
  kron w r k - Ideal.div (∑ x : Fin 64, kron w ⟨r / 64 * 64 + x, by omega⟩ k) ((64 : ℝ) : EReal)

/-- The weights less their mean over the group of 8 rows. -/
def centred2 (w : Fin 64 → Fin 512 → EReal) (o : Fin 64) (k : Fin 512) : EReal :=
  w o k - Ideal.div (∑ x : Fin 8, w ⟨o / 8 * 8 + x, by omega⟩ k) ((8 : ℝ) : EReal)

/-- The first layer: the kernel's row `16 c + 4 i + j` and the reference's channel `c` at `(i, j)` are one real. -/
theorem layer1 (w : Fin 32 → Fin 3 → EReal) (D : Fin 3 → Fin 16 → ℝ) (v : Fin 48 → EReal)
    (hv : ∀ k : Fin 48, v k = (D ⟨k / 16, by omega⟩ ⟨k % 16, by omega⟩ : EReal)) (e : ℝ) (he : 0 < e)
    (p : Fin 8 → Fin 4 → Fin 4 → Fin 4 → EReal)
    (hp : ∀ g c i j, p g c i j = ∑ ch, (D ch ⟨i * 4 + j, by omega⟩ : EReal) * w ⟨g * 4 + c, by omega⟩ ch)
    (r : Fin 512) :
    ∃ x : ℝ, (∑ y, centred1 w r y * v y) * Ideal.rsqrt (Ideal.div (∑ x : Fin 64,
        (∑ y, centred1 w ⟨r / 64 * 64 + x, by omega⟩ y * v y) * (∑ y, centred1 w ⟨r / 64 * 64 + x, by omega⟩ y * v y))
          ((64 : ℝ) : EReal) + (e : EReal)) = x
      ∧ Ideal.div (p ⟨r / 64, by omega⟩ ⟨r / 16 % 4, by omega⟩ ⟨r / 4 % 4, by omega⟩ ⟨r % 4, by omega⟩
            - Ideal.div (∑ x, ∑ y, ∑ z, p ⟨r / 64, by omega⟩ x y z) ((64 : ℝ) : EReal))
          (Ideal.sqrt (Ideal.div (∑ x, ∑ y, ∑ z,
            (p ⟨r / 64, by omega⟩ x y z - Ideal.div (∑ x, ∑ y, ∑ z, p ⟨r / 64, by omega⟩ x y z) ((64 : ℝ) : EReal))
              * (p ⟨r / 64, by omega⟩ x y z - Ideal.div (∑ x, ∑ y, ∑ z, p ⟨r / 64, by omega⟩ x y z) ((64 : ℝ) : EReal)))
                ((64 : ℝ) : EReal) + (e : EReal))) = x := by
  let P : Fin 64 → EReal := fun s => p ⟨r / 64, by omega⟩ ⟨s / 16, by omega⟩ ⟨s / 4 % 4, by omega⟩ ⟨s % 4, by omega⟩
  have hS : ∑ x, ∑ y, ∑ z, p ⟨r / 64, by omega⟩ x y z = ∑ s, P s := (sum64 fun x y z => p ⟨r / 64, by omega⟩ x y z).symm
  have hQ : ∀ M : EReal, (∑ x, ∑ y, ∑ z, (p ⟨r / 64, by omega⟩ x y z - M) * (p ⟨r / 64, by omega⟩ x y z - M))
      = ∑ s, (P s - M) * (P s - M) := fun M =>
    (sum64 fun x y z => (p ⟨r / 64, by omega⟩ x y z - M) * (p ⟨r / 64, by omega⟩ x y z - M)).symm
  have row : ∀ s : Fin 64, P s = ∑ k : Fin 48, kron w ⟨r / 64 * 64 + s, by omega⟩ k
      * (D ⟨k / 16, by omega⟩ ⟨k % 16, by omega⟩ : EReal) := by
    intro s
    rw [kron_sum]
    refine (hp _ _ _ _).trans (Finset.sum_congr rfl fun ch _ => ?_)
    congr 1
    · congr 2; exact Fin.ext (by dsimp only; omega)
    · congr 1; exact Fin.ext (by dsimp only; omega)
  obtain ⟨x, h1, h2⟩ := Norm.norm_eq (R := Fin 64) (K := Fin 48)
    (fun s k => kron w ⟨r / 64 * 64 + s, by omega⟩ k) (fun k => D ⟨k / 16, by omega⟩ ⟨k % 16, by omega⟩) 64 e
    (by norm_num) he ⟨r % 64, by omega⟩
    (fun s => ∑ y, centred1 w ⟨r / 64 * 64 + s, by omega⟩ y * v y) P
    (fun s => P s - Ideal.div (∑ s, P s) ((64 : ℝ) : EReal))
    (fun s => Finset.sum_congr rfl fun k _ => by
      rw [hv, centred1]; congr 3
      refine Finset.sum_congr rfl fun t _ => ?_
      congr 1
      exact Fin.ext (by dsimp only; omega))
    row (fun s => rfl)
  refine ⟨x, ?_, ?_⟩
  · rw [← h1]
    congr 1
    refine Finset.sum_congr rfl fun k _ => ?_
    congr 2
    exact Fin.ext (by dsimp only; omega)
  · rw [hS, hQ, ← h2]
    congr 2
    show p _ _ _ _ = p _ _ _ _
    congr 1 <;> exact Fin.ext (by dsimp only; omega)

/-- The second layer: the kernel's row and the reference's channel are one real. -/
theorem layer2 (w : Fin 64 → Fin 512 → EReal) (V : Fin 512 → ℝ) (v : Fin 512 → EReal) (hv : ∀ k, v k = (V k : EReal))
    (e : ℝ) (he : 0 < e) (p : Fin 8 → Fin 8 → EReal)
    (hp : ∀ g c, p g c = ∑ k, w ⟨g * 8 + c, by omega⟩ k * (V k : EReal)) (o : Fin 64) :
    ∃ x : ℝ, (∑ y, centred2 w o y * v y) * Ideal.rsqrt (Ideal.div (∑ x : Fin 8,
        (∑ y, centred2 w ⟨o / 8 * 8 + x, by omega⟩ y * v y) * (∑ y, centred2 w ⟨o / 8 * 8 + x, by omega⟩ y * v y))
          ((8 : ℝ) : EReal) + (e : EReal)) = x
      ∧ Ideal.div (p ⟨o / 8, by omega⟩ ⟨o % 8, by omega⟩ - Ideal.div (∑ x, p ⟨o / 8, by omega⟩ x) ((8 : ℝ) : EReal))
          (Ideal.sqrt (Ideal.div (∑ x,
            (p ⟨o / 8, by omega⟩ x - Ideal.div (∑ x, p ⟨o / 8, by omega⟩ x) ((8 : ℝ) : EReal))
              * (p ⟨o / 8, by omega⟩ x - Ideal.div (∑ x, p ⟨o / 8, by omega⟩ x) ((8 : ℝ) : EReal)))
                ((8 : ℝ) : EReal) + (e : EReal))) = x := by
  obtain ⟨x, h1, h2⟩ := Norm.norm_eq (R := Fin 8) (K := Fin 512)
    (fun s k => w ⟨o / 8 * 8 + s, by omega⟩ k) V 8 e (by norm_num) he ⟨o % 8, by omega⟩
    (fun s => ∑ y, centred2 w ⟨o / 8 * 8 + s, by omega⟩ y * v y) (fun s => p ⟨o / 8, by omega⟩ s)
    (fun s => p ⟨o / 8, by omega⟩ s - Ideal.div (∑ s, p ⟨o / 8, by omega⟩ s) ((8 : ℝ) : EReal))
    (fun s => Finset.sum_congr rfl fun k _ => by
      rw [hv, centred2]; congr 3
      refine Finset.sum_congr rfl fun t _ => ?_
      congr 1
      exact Fin.ext (by dsimp only; omega))
    (fun s => hp _ _) (fun s => rfl)
  refine ⟨x, ?_, h2⟩
  rw [← h1]
  congr 1
  refine Finset.sum_congr rfl fun k _ => ?_
  congr 2
  exact Fin.ext (by dsimp only; omega)

end Cert.Proof.Layers
-- ==== Proof.Windows.lean ====
module

public import proofs.«01_k».proof.Proof.Layers
public import proofs.«01_k».proof.Proof.Gen.KernelIdeal
public import proofs.«01_k».proof.Proof.Gen.KernelIdeal.Skeleton
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.StableHlo.ReadAt

@[expose] public section

set_option maxRecDepth 16384

noncomputable section

/-! The arrays that the kernel's windows read: the points with their channels in front, and the two layers' centred
    weights. -/

namespace Cert.Proof.Windows

open Idealize.ShloMosaic Idealize.ShloMosaic.TcCoe Idealize.SL.Sem
open Cert.KernelIdeal Cert.KernelIdeal.Gen
open Cert.Proof.Layers

theorem bits64 : Ideal.ofBits FTy.f32 1115684864#32 = ((64 : ℝ) : EReal) := by
  simp [Ideal.ofBits, Ideal.ieee, -EReal.coe_mul]; norm_num
theorem bits8 : Ideal.ofBits FTy.f32 1090519040#32 = ((8 : ℝ) : EReal) := by
  simp [Ideal.ofBits, Ideal.ieee, -EReal.coe_mul]; norm_num

/-- An element of the identity matrix, as the program computes it. -/
theorem eye_at (i j : ℕ) (hi : i < 16) (hj : j < 16) :
    FloatOps.uitofp (F := Ideal) FTy.f32 (IntOp.cmpi .eq (IntOp.addi (BitVec.ofNat 32 i) 0#32) (BitVec.ofNat 32 j))
      = if i = j then (1 : EReal) else 0 := by
  have h : IntOp.addi (BitVec.ofNat 32 i) 0#32 = BitVec.ofNat 32 i := by simp [IntOp.addi]
  rw [h]
  by_cases e : i = j
  · rw [if_pos e, e]
    change ((_ : ℝ) : EReal) = _
    simp [IntOp.cmpi]
  · rw [if_neg e]
    have : ¬ BitVec.ofNat 32 i = BitVec.ofNat 32 j := fun he => e (by
      have := congrArg BitVec.toNat he
      rwa [BitVec.toNat_ofNat, BitVec.toNat_ofNat, Nat.mod_eq_of_lt (by omega), Nat.mod_eq_of_lt (by omega)] at this)
    have hc : IntOp.cmpi .eq (BitVec.ofNat 32 i) (BitVec.ofNat 32 j) = 0#1 := by
      simp only [IntOp.cmpi, beq_eq_false_iff_ne.2 this]; rfl
    rw [hc]
    change ((_ : ℝ) : EReal) = _
    simp

/-- The first layer's weights as the program computes them. -/
theorem centred1_of (A : FVec Ideal S32x3x1x1 .f32) (r : Fin 512) (y : Fin 48) :
    A (ix4 ⟨((r : ℕ) / 64 * 64 + (r : ℕ) % 64) / 16, by omega⟩ ⟨(y : ℕ) / 16, by omega⟩ 0 0) *
        FloatOps.uitofp (F := Ideal) FTy.f32
          (IntOp.cmpi CmpIPredicate.eq (IntOp.addi (BitVec.ofNat 32 (((r : ℕ) / 64 * 64 + (r : ℕ) % 64) % 16)) 0#32)
            (BitVec.ofNat 32 ((y : ℕ) % 16))) -
      Ideal.div
        (∑ x : Fin 64,
          A (ix4 ⟨((r : ℕ) / 64 * 64 + (x : ℕ)) / 16, by omega⟩ ⟨(y : ℕ) / 16, by omega⟩ 0 0) *
            FloatOps.uitofp (F := Ideal) FTy.f32
              (IntOp.cmpi CmpIPredicate.eq (IntOp.addi (BitVec.ofNat 32 (((r : ℕ) / 64 * 64 + (x : ℕ)) % 16)) 0#32)
                (BitVec.ofNat 32 ((y : ℕ) % 16))))
        (Ideal.ofBits FTy.f32 1115684864#32)
      = centred1 (fun o ch => A (ix4 o ch 0 0)) r y := by
  rw [bits64]
  unfold centred1 kron
  refine congrArg₂ (fun a b : EReal => a - b) ?_ (congrArg (fun z => Ideal.div z ((64 : ℝ) : EReal)) (Finset.sum_congr rfl fun x _ => ?_))
  · have h : (r : ℕ) / 64 * 64 + r % 64 = r := by omega
    rw [eye_at _ _ (by omega) (by omega)]
    simp only [h]
  · rw [eye_at _ _ (by omega) (by omega)]

/-- The second layer's weights as the program computes them. -/
theorem centred2_of (A : FVec Ideal S64x32x4x4 .f32) (r : Fin 64) (y : Fin 512) :
    A (ix4 ⟨(r : ℕ) / 8 * 8 + (r : ℕ) % 8, by omega⟩ ⟨(y : ℕ) / 16, by omega⟩ ⟨(y : ℕ) / 4 % 4, by omega⟩ ⟨(y : ℕ) % 4, by omega⟩) -
      Ideal.div
        (∑ x : Fin 8, A (ix4 ⟨(r : ℕ) / 8 * 8 + (x : ℕ), by omega⟩ ⟨(y : ℕ) / 16, by omega⟩ ⟨(y : ℕ) / 4 % 4, by omega⟩ ⟨(y : ℕ) % 4, by omega⟩))
        (Ideal.ofBits FTy.f32 1090519040#32)
      = centred2 (fun o k => A (ix4 o ⟨k / 16, by omega⟩ ⟨k / 4 % 4, by omega⟩ ⟨k % 4, by omega⟩)) r y := by
  have h : (r : ℕ) / 8 * 8 + r % 8 = r := by omega
  rw [bits8]
  unfold centred2
  simp only [h]

variable (m : (ℓ : Loc nD τ sig) → Buf (Elt Ideal) ℓ) (c : Dev nD)

/-- The points, channels in front. -/
theorem points_at (b : Fin 8) (ch : Fin 6) (p : Fin 32) (g : Fin 4096) :
    (V m c main_v0 : FVec Ideal S8x6x32x4096 .f32) (ix4 b ch p g)
      = (m (c, Proc.tc.devRef main_arg0) : FVec Ideal S8x4096x32x6 .f32) (ix4 b g p ch) := by
  unfold V
  after_reads_at

/-- The first layer's weights: spread over the cells and centred over each group's rows. -/
theorem weights1_at (r : Fin 512) (y : Fin 48) :
    (V m c main_v16 : FVec Ideal S512x48 .f32) (ix2 r y)
      = centred1 (fun o ch => (m (c, Proc.tc.devRef main_arg1) : FVec Ideal S32x3x1x1 .f32) (ix4 o ch 0 0)) r y := by
  unfold V
  after_reads_at
  exact centred1_of _ r y

/-- The second layer's weights, centred over each group's rows. -/
theorem weights2_at (r : Fin 64) (y : Fin 512) :
    (V m c main_v24 : FVec Ideal S64x512 .f32) (ix2 r y)
      = centred2 (fun o k => (m (c, Proc.tc.devRef main_arg5) : FVec Ideal S64x32x4x4 .f32)
          (ix4 o ⟨k / 16, by omega⟩ ⟨k / 4 % 4, by omega⟩ ⟨k % 4, by omega⟩)) r y := by
  unfold V
  after_reads_at
  exact centred2_of _ r y

end Cert.Proof.Windows
-- ==== Proof.RefLayers.lean ====
module

public import proofs.«01_k».proof.Proof.Windows
public import proofs.«01_k».proof.Proof.Gen.ReferenceIdeal
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

/-! The reference's two layers: products with the weights and group normalisations. -/

namespace Cert.Proof.RefLayers

open Idealize.ShloMosaic Idealize.ShloMosaic.TcCoe Idealize.SL.Sem
open Cert.Proof
open Cert.ReferenceIdeal Cert.ReferenceIdeal.Gen Cert.ReferenceIdeal.Read

variable (x0 : FVec Ideal S8x4096x32x6 .f32) (x1 : FVec Ideal S32x3x1x1 .f32) (x2 x3 x4 : FVec Ideal S32 .f32)
  (x5 : FVec Ideal S64x32x4x4 .f32) (x6 x7 x8 : FVec Ideal S64 .f32)

/-- The second product's dimension numbers: three contracted axes. -/
abbrev dims := dot_S32768x32x4x4_S64x32x4x4_S32768x64_123_123_0_0_n_n

/-- A contraction index from its three coordinates. -/
def contrAt (x : Fin 32) (y z : Fin 4) : dims.contr.Idx := fun p : Fin 3 =>
  (match p with
    | ⟨0, _⟩ => x
    | ⟨1, _⟩ => y
    | ⟨2, _⟩ => z : Fin (dims.contr.size p))

/-- The contraction's indices are the triples of coordinates. -/
def contrTriple : Fin 32 × Fin 4 × Fin 4 ≃ dims.contr.Idx where
  toFun k := contrAt k.1 k.2.1 k.2.2
  invFun j := ((j (0 : Fin 3) : Fin 32), (j (1 : Fin 3) : Fin 4), (j (2 : Fin 3) : Fin 4))
  left_inv _ := rfl
  right_inv j := by
    funext p
    revert p
    change ∀ p : Fin 3, _
    intro p
    match p with
    | ⟨0, _⟩ => rfl
    | ⟨1, _⟩ => rfl
    | ⟨2, _⟩ => rfl

/-- The second product at an index: a sum over the 512 inputs. -/
theorem product_at (h : FVec Ideal S32768x32x4x4 .f32) (w : FVec Ideal S64x32x4x4 .f32) (n : Fin 32768) (o : Fin 64) :
    Ideal.matmul dims h w (fun _ => 0) (ix2 n o) = ∑ k : Fin 512,
      h (ix4 n ⟨k / 16, by omega⟩ ⟨k / 4 % 4, by omega⟩ ⟨k % 4, by omega⟩)
        * w (ix4 o ⟨k / 16, by omega⟩ ⟨k / 4 % 4, by omega⟩ ⟨k % 4, by omega⟩) := by
  rw [Layers.sum512 (fun x y z => h (ix4 n x y z) * w (ix4 o x y z))]
  change 0 + ∑ k : dims.contr.Idx, h (dims.lhsIdx (ix2 n o) k) * w (dims.rhsIdx (ix2 n o) k) = _
  rw [zero_add, ← Fintype.sum_equiv contrTriple (fun k => h (ix4 n k.1 k.2.1 k.2.2) * w (ix4 o k.1 k.2.1 k.2.2))]
  · simp only [Fintype.sum_prod_type]
  · rintro ⟨x, y, z⟩
    have e1 : dims.lhsIdx (ix2 n o) (contrAt x y z) = ix4 n x y z := by
      funext a
      match a with
      | ⟨0, _⟩ => rfl
      | ⟨1, _⟩ => rfl
      | ⟨2, _⟩ => rfl
      | ⟨3, _⟩ => rfl
    have e2 : dims.rhsIdx (ix2 n o) (contrAt x y z) = ix4 o x y z := by
      funext a
      match a with
      | ⟨0, _⟩ => rfl
      | ⟨1, _⟩ => rfl
      | ⟨2, _⟩ => rfl
      | ⟨3, _⟩ => rfl
    change _ = h (dims.lhsIdx (ix2 n o) (contrAt x y z)) * w (dims.rhsIdx (ix2 n o) (contrAt x y z))
    rw [e1, e2]

/-- The normalisation over a group of 64 values. -/
def normed1 (p : Fin 8 → Fin 4 → Fin 4 → Fin 4 → EReal) (e : EReal) (g : Fin 8) (c i j : Fin 4) : EReal :=
  Ideal.div (p g c i j - Ideal.div (∑ x, ∑ y, ∑ z, p g x y z) ((64 : ℝ) : EReal))
    (Ideal.sqrt (Ideal.div (∑ x, ∑ y, ∑ z, (p g x y z - Ideal.div (∑ x, ∑ y, ∑ z, p g x y z) ((64 : ℝ) : EReal))
      * (p g x y z - Ideal.div (∑ x, ∑ y, ∑ z, p g x y z) ((64 : ℝ) : EReal))) ((64 : ℝ) : EReal) + e))

/-- The normalisation over a group of 8 values. -/
def normed2 (p : Fin 8 → Fin 8 → EReal) (e : EReal) (g c : Fin 8) : EReal :=
  Ideal.div (p g c - Ideal.div (∑ x, p g x) ((8 : ℝ) : EReal))
    (Ideal.sqrt (Ideal.div (∑ x, (p g x - Ideal.div (∑ x, p g x) ((8 : ℝ) : EReal))
      * (p g x - Ideal.div (∑ x, p g x) ((8 : ℝ) : EReal))) ((8 : ℝ) : EReal) + e))

/-- No correction is subtracted from the number of values. -/
theorem no_correction (z : EReal) : z - FloatOps.sitofp (F := Ideal) FTy.f32 0#32 = z := by
  have e : FloatOps.sitofp (F := Ideal) FTy.f32 0#32 = (0 : EReal) := by
    change ((_ : ℝ) : EReal) = 0
    simp
  rw [e, sub_zero]

/-- The first layer before normalisation, for a bias of zero. -/
theorem first_at (h2 : ∀ c, x2 (ix1 c) = 0) (n : Fin 32768) (D : Fin 3 → Fin 16 → ℝ)
    (hD : ∀ ch k, val_main_v102 (F := Ideal) x0 (ix4 ⟨n / 4096, by omega⟩ ⟨n % 4096, by omega⟩ ch k) = (D ch k : EReal))
    (g : Fin 8) (c i j : Fin 4) :
    val_main_v110 (F := Ideal) x0 x1 x2 (ix5 n g c i j)
      = ∑ ch, (D ch ⟨i * 4 + j, by omega⟩ : EReal) * x1 (ix4 ⟨g * 4 + c, by omega⟩ ch 0 0) := by
  pointwise [val_main_v103, val_main_v104, val_main_v105, val_main_v106, val_main_v107, val_main_v108, val_main_v109, val_main_v110]
  rw [h2, add_zero]
  exact Finset.sum_congr rfl fun ch _ => congrArg (· * _) (hD ch _)

set_option maxHeartbeats 2000000 in
/-- The first layer, for a scale of one and a shift of zero. -/
theorem first_normed_at (h3 : ∀ c, x3 (ix1 c) = 1) (h4 : ∀ c, x4 (ix1 c) = 0) (n : Fin 32768) (c : Fin 32) (i j : Fin 4) :
    val_main_v130 (F := Ideal) x0 x1 x2 x3 x4 (ix4 n c i j)
      = max (normed1 (fun g c i j => val_main_v110 (F := Ideal) x0 x1 x2 (ix5 n g c i j))
          (Ideal.ofBits FTy.f32 925353388#32) ⟨c / 4, by omega⟩ ⟨c % 4, by omega⟩ i j) 0 := by
  obtain ⟨z, hz⟩ : ∃ z : EReal, z = max (normed1 (fun g c i j => val_main_v110 (F := Ideal) x0 x1 x2 (ix5 n g c i j)) (Ideal.ofBits FTy.f32 925353388#32) ⟨c / 4, by omega⟩ ⟨c % 4, by omega⟩ i j) 0 := ⟨_, rfl⟩
  rw [← hz]
  pointwise [val_main_cst_31, val_main_v111, val_main_v112, val_main_cst_32, val_main_v113, val_main_v114, val_main_c_33, val_main_call9_cst, val_main_call9_v0, val_main_call9_v1, val_main_call9_cst_0, val_main_call9_v2, val_main_call9_v3, val_main_call9_v4, val_main_call9_v5, val_main_call9_v6, val_main_call9_v7, val_main_call9_cst_1, val_main_call9_v8, val_main_call9_cst_2, val_main_call9_v9, val_main_call9_v10, val_main_call9_v11, val_main_call9_v12, val_main_call9_cst_3, val_main_call9_v13, val_main_call9_cst_4, val_main_call9_call0_v0, val_main_call9_call0_v1, val_main_v115, val_main_v116, val_main_v117, val_main_cst_34, val_main_v118, val_main_v119, val_main_v120, val_main_v121, val_main_v122, val_main_v123, val_main_v124, val_main_v125, val_main_v126, val_main_v127, val_main_v128, val_main_v129, val_main_call10_cst, val_main_call10_v0, val_main_v130]
  rw [hz]
  clear hz z
  generalize val_main_v110 (F := Ideal) x0 x1 x2 = P
  simp only [no_correction]
  unfold normed1
  rw [h3 c, h4 c, mul_one, add_zero, Windows.bits64, if_pos (by exact_mod_cast (by norm_num : (0 : ℝ) < 64))]

/-- The second normalisation as the program computes it. -/
theorem second_form (P : FVec Ideal S32768x8x8x1x1 .f32) (n : Fin 32768) (g c : Fin 8) (s t q : EReal) (hs : s = 1) (ht : t = 0)
    {inst : Decidable (0 < Ideal.ofBits FTy.f32 1090519040#32 - FloatOps.sitofp (F := Ideal) FTy.f32 0#32)} :
    max (Ideal.div (P (ix5 n g c 0 0) - Ideal.div (∑ x : Fin 8, ∑ y : Fin 1, ∑ z : Fin 1, P (ix5 n g x y z)) (Ideal.ofBits FTy.f32 1090519040#32))
      (Ideal.sqrt (@ite EReal (0 < Ideal.ofBits FTy.f32 1090519040#32 - FloatOps.sitofp (F := Ideal) FTy.f32 0#32) inst
        (Ideal.div (∑ x : Fin 8, ∑ y : Fin 1, ∑ z : Fin 1,
          (P (ix5 n g x y z) - Ideal.div (∑ x : Fin 8, ∑ y : Fin 1, ∑ z : Fin 1, P (ix5 n g x y z)) (Ideal.ofBits FTy.f32 1090519040#32))
            * (P (ix5 n g x y z) - Ideal.div (∑ x : Fin 8, ∑ y : Fin 1, ∑ z : Fin 1, P (ix5 n g x y z)) (Ideal.ofBits FTy.f32 1090519040#32)))
          (Ideal.ofBits FTy.f32 1090519040#32 - FloatOps.sitofp (F := Ideal) FTy.f32 0#32)) q
        + Ideal.ofBits FTy.f32 925353388#32)) * s + t) 0
      = max (normed2 (fun g c => P (ix5 n g c 0 0)) (Ideal.ofBits FTy.f32 925353388#32) g c) 0 := by
  rw [if_pos (by rw [no_correction, Windows.bits8]; exact_mod_cast (by norm_num : (0 : ℝ) < 8)), hs, ht, mul_one, add_zero,
    no_correction, Windows.bits8]
  unfold normed2
  simp only [Finset.univ_unique, Finset.sum_singleton]
  rfl

/-- The second layer before normalisation, for a bias of zero. -/
theorem second_at (h6 : ∀ c, x6 (ix1 c) = 0) (n : Fin 32768) (g c : Fin 8) :
    val_main_v136 (F := Ideal) x0 x1 x2 x3 x4 x5 x6 (ix5 n g c 0 0) = ∑ k : Fin 512,
      val_main_v130 (F := Ideal) x0 x1 x2 x3 x4 (ix4 n ⟨k / 16, by omega⟩ ⟨k / 4 % 4, by omega⟩ ⟨k % 4, by omega⟩)
        * x5 (ix4 ⟨g * 8 + c, by omega⟩ ⟨k / 16, by omega⟩ ⟨k / 4 % 4, by omega⟩ ⟨k % 4, by omega⟩) := by
  pointwise [val_main_v131, val_main_v132, val_main_v133, val_main_v134, val_main_v135, val_main_v136]
  rw [h6, add_zero]
  exact product_at _ _ _ _

set_option maxHeartbeats 2000000 in
/-- The second layer, for a scale of one and a shift of zero. -/
theorem second_normed_at (h7 : ∀ c, x7 (ix1 c) = 1) (h8 : ∀ c, x8 (ix1 c) = 0) (b : Fin 8) (m : Fin 4096) (o : Fin 64) :
    val_main_v157 (F := Ideal) x0 x1 x2 x3 x4 x5 x6 x7 x8 (ix3 b m o)
      = max (normed2 (fun g c => val_main_v136 (F := Ideal) x0 x1 x2 x3 x4 x5 x6
            (ix5 (⟨b * 4096 + m, by omega⟩ : Fin 32768) g c 0 0))
          (Ideal.ofBits FTy.f32 925353388#32) ⟨o / 8, by omega⟩ ⟨o % 8, by omega⟩) 0 := by
  obtain ⟨z, hz⟩ : ∃ z : EReal, z = max (normed2 (fun g c => val_main_v136 (F := Ideal) x0 x1 x2 x3 x4 x5 x6 (ix5 (⟨b * 4096 + m, by omega⟩ : Fin 32768) g c 0 0)) (Ideal.ofBits FTy.f32 925353388#32) ⟨o / 8, by omega⟩ ⟨o % 8, by omega⟩) 0 := ⟨_, rfl⟩
  rw [← hz]
  pointwise [val_main_cst_35, val_main_v137, val_main_v138, val_main_cst_36, val_main_v139, val_main_v140, val_main_c_37, val_main_call11_cst, val_main_call11_v0, val_main_call11_v1, val_main_call11_cst_0, val_main_call11_v2, val_main_call11_v3, val_main_call11_v4, val_main_call11_v5, val_main_call11_v6, val_main_call11_v7, val_main_call11_cst_1, val_main_call11_v8, val_main_call11_cst_2, val_main_call11_v9, val_main_call11_v10, val_main_call11_v11, val_main_call11_v12, val_main_call11_cst_3, val_main_call11_v13, val_main_call11_cst_4, val_main_call11_call0_v0, val_main_call11_call0_v1, val_main_v141, val_main_v142, val_main_v143, val_main_cst_38, val_main_v144, val_main_v145, val_main_v146, val_main_v147, val_main_v148, val_main_v149, val_main_v150, val_main_v151, val_main_v152, val_main_v153, val_main_v154, val_main_v155, val_main_call12_cst, val_main_call12_v0, val_main_v156, val_main_v157]
  rw [hz]
  clear hz z
  exact second_form _ _ _ _ _ _ _ (h7 o) (h8 o)

end Cert.Proof.RefLayers
-- ==== Proof.Point.lean ====
module

public import proofs.«01_k».proof.Proof.Pre
public import proofs.«01_k».proof.Proof.Cells
public import proofs.«01_k».proof.Proof.RefGrid
public import proofs.«01_k».proof.Proof.RefLayers

@[expose] public section

set_option maxRecDepth 16384

noncomputable section

/-! One value of the result: what the kernel's body computes for a group and an output channel is what the reference
    computes there. -/

namespace Cert.Proof.Point

open Idealize.ShloMosaic Idealize.ShloMosaic.TcCoe Idealize.SL.Sem
open Cert.Proof Cert.Proof.Geom Cert.Proof.KernelVal Cert.Proof.Layers Cert.Proof.RefLayers
open Cert.KernelIdeal Cert.KernelIdeal.Gen

/-- The small term under the roots is a positive real. -/
theorem small : ∃ e : ℝ, 0 < e ∧ Ideal.ofBits FTy.f32 925353388#32 = (e : EReal) := by
  refine ⟨_, ?_, by simp only [Ideal.ofBits, Ideal.ieee]; rfl⟩
  rw [if_neg (by decide)]
  positivity

/-- The two layers over one group, given the group's grid of real values, the centred weights and the reference's
intermediate values: both end in one value. -/
theorem combine (S : FVec Ideal S48x4096 .f32) (a : Vec Ideal S512x48 .f32) (w : Vec Ideal S64x512 .f32) (m : Fin 4096) (o : Fin 64)
    (W1 : Fin 32 → Fin 3 → EReal) (W2 : Fin 64 → Fin 512 → EReal) (D : Fin 3 → Fin 16 → ℝ)
    (hS : ∀ k : Fin 48, S (ix2 k m) = (D ⟨k / 16, by omega⟩ ⟨k % 16, by omega⟩ : EReal))
    (ha : ∀ r y, a (ix2 r y) = centred1 W1 r y) (hw : ∀ o k, w (ix2 o k) = centred2 W2 o k)
    (P1 : Fin 8 → Fin 4 → Fin 4 → Fin 4 → EReal)
    (hP1 : ∀ g c i j, P1 g c i j = ∑ ch, (D ch ⟨i * 4 + j, by omega⟩ : EReal) * W1 ⟨g * 4 + c, by omega⟩ ch)
    (H : Fin 32 → Fin 4 → Fin 4 → EReal)
    (hH : ∀ c i j, H c i j = max (normed1 P1 (Ideal.ofBits FTy.f32 925353388#32) ⟨c / 4, by omega⟩ ⟨c % 4, by omega⟩ i j) 0)
    (P2 : Fin 8 → Fin 8 → EReal)
    (hP2 : ∀ g c, P2 g c = ∑ k : Fin 512, H ⟨k / 16, by omega⟩ ⟨k / 4 % 4, by omega⟩ ⟨k % 4, by omega⟩ * W2 ⟨g * 8 + c, by omega⟩ k) :
    k0_pay1 (layer S a) w (ix3 0 m o)
      = max (normed2 P2 (Ideal.ofBits FTy.f32 925353388#32) ⟨o / 8, by omega⟩ ⟨o % 8, by omega⟩) 0 := by
  obtain ⟨e, he, hee⟩ := small
  rw [hee] at hH ⊢
  choose V hV hV' using layer1 W1 D (fun k => S (ix2 k m)) hS e he P1 hP1
  have hl : ∀ r, max (layer S a (ix2 r m)) 0 = ((max (V r) 0 : ℝ) : EReal) := fun r => by
    rw [layer_at, EReal.coe_strictMono.monotone.map_max, ← hV r, hee, Windows.bits64]
    simp only [ha]
    rfl
  have hh : ∀ k : Fin 512, H ⟨k / 16, by omega⟩ ⟨k / 4 % 4, by omega⟩ ⟨k % 4, by omega⟩ = ((max (V k) 0 : ℝ) : EReal) := fun k => by
    rw [hH, EReal.coe_strictMono.monotone.map_max, ← hV' k, normed1]
    have i1 : (⟨(k : ℕ) / 16 / 4, by omega⟩ : Fin 8) = ⟨k / 64, by omega⟩ := Fin.ext (by dsimp only; omega)
    dsimp only
    rw [i1]
    rfl
  obtain ⟨x, h1, h2⟩ := layer2 W2 (fun k => max (V k) 0) (fun k => max (layer S a (ix2 k m)) 0) hl e he P2
    (fun g c => (hP2 g c).trans (Finset.sum_congr rfl fun k _ => by rw [hh k, mul_comm])) o
  rw [out_at, normed2, h2, ← h1, hee, Windows.bits8]
  simp only [hw]

/-- The feature rows the kernel's body reads. -/
theorem third_at (l : Vec Ideal S1x1x32x4096 .f32) (p : Fin 32) (m : Fin 4096) : k0_pay4 l (ix2 p m) = l (ix4 0 0 p m) := by
  pointwise [k0_pay4]

/-- The feature rows the kernel's body reads. -/
theorem fourth_at (l : Vec Ideal S1x1x32x4096 .f32) (p : Fin 32) (m : Fin 4096) : k0_pay5 l (ix2 p m) = l (ix4 0 0 p m) := by
  pointwise [k0_pay5]

/-- The stack of a group's rows is the group's grid of real values. -/
theorem stack_of (l0 l1 l2 l3 : Vec Ideal S1x1x32x4096 .f32) (m : Fin 4096) (u v r s : Fin 32 → EReal) (hg : Pre.Group u v r s)
    (e0 : ∀ p, l0 (ix4 0 0 p m) = u p) (e1 : ∀ p, l1 (ix4 0 0 p m) = v p)
    (e2 : ∀ p, l2 (ix4 0 0 p m) = r p) (e3 : ∀ p, l3 (ix4 0 0 p m) = s p)
    (X Y : Fin 32 → ℝ) (hX : ∀ p, u p = X p) (hY : ∀ p, v p = Y p) (k : Fin 48) :
    stack (cells l0 l1) (k0_pay4 l2) (k0_pay5 l3) (ix2 k m)
      = (chan (cell X Y) r s ⟨k / 16, by omega⟩ ⟨k % 16, by omega⟩ : EReal) := by
  have f2 : ∀ p, k0_pay4 l2 (ix2 p m) = r p := fun p => (third_at l2 p m).trans (e2 p)
  have f3 : ∀ p, k0_pay5 l3 (ix2 p m) = s p := fun p => (fourth_at l3 p m).trans (e3 p)
  have e := stack_at (cells l0 l1) (k0_pay4 l2) (k0_pay5 l3) m (cell X Y) (cell_lt X Y)
    (cells_at l0 l1 m X Y (fun p => (e0 p).trans (hX p)) (fun p => (e1 p).trans (hY p)))
    (fun p => by rw [f2]; exact hg.third p) (fun p => by rw [f3]; exact hg.fourth p)
    (fun k => by
      rcases hg.spread with ⟨p, hp⟩ | ⟨⟨p, hp⟩, q, hq⟩
      · refine .inl (exists_outside X Y ⟨p, hp.imp (fun h e => h ?_) fun h e => h ?_⟩ k)
        · rw [hX, hX, e]
        · rw [hY, hY, e]
      · exact .inr ⟨⟨p, by rw [f2]; exact hp⟩, q, by rw [f3]; exact hq⟩) k
  rw [e, funext f2, funext f3]

/-- What the kernel's body computes of a group is what the reference computes of it. -/
theorem point (x0 : FVec Ideal S8x4096x32x6 .f32) (x1 : FVec Ideal S32x3x1x1 .f32) (x2 x3 x4 : FVec Ideal S32 .f32)
    (x5 : FVec Ideal S64x32x4x4 .f32) (x6 x7 x8 : FVec Ideal S64 .f32)
    (h : Cert.Pre_drawn.fn (F := Ideal) x0 x1 x2 x3 x4 x5 x6 x7 x8 = fun _ => 1#1)
    (l0 l1 l2 l3 : Vec Ideal S1x1x32x4096 .f32) (a : Vec Ideal S512x48 .f32) (w : Vec Ideal S64x512 .f32)
    (b : Fin 8) (m : Fin 4096) (o : Fin 64)
    (e0 : ∀ p, l0 (ix4 0 0 p m) = x0 (ix4 b m p 0)) (e1 : ∀ p, l1 (ix4 0 0 p m) = x0 (ix4 b m p 1))
    (e2 : ∀ p, l2 (ix4 0 0 p m) = x0 (ix4 b m p 3)) (e3 : ∀ p, l3 (ix4 0 0 p m) = x0 (ix4 b m p 5))
    (ha : ∀ r y, a (ix2 r y) = centred1 (fun o ch => x1 (ix4 o ch 0 0)) r y)
    (hw : ∀ o k, w (ix2 o k) = centred2 (fun o k => x5 (ix4 o ⟨k / 16, by omega⟩ ⟨k / 4 % 4, by omega⟩ ⟨k % 4, by omega⟩)) o k) :
    k0_pay1 (layer (stack (cells l0 l1) (k0_pay4 l2) (k0_pay5 l3)) a) w (ix3 0 m o)
      = Cert.ReferenceIdeal.Read.val_main_v157 (F := Ideal) x0 x1 x2 x3 x4 x5 x6 x7 x8 (ix3 b m o) := by
  obtain ⟨hg, ⟨h2, h3, h4⟩, h6, h7, h8⟩ := Pre.of_drawn x0 x1 x2 x3 x4 x5 x6 x7 x8 h
  replace hg := hg b m
  obtain ⟨X, hX⟩ := hg.first
  obtain ⟨Y, hY⟩ := hg.second
  have i1 : (⟨((⟨b * 4096 + m, by omega⟩ : Fin 32768) : ℕ) / 4096, by omega⟩ : Fin 8) = b := Fin.ext (by dsimp only; omega)
  have i2 : (⟨((⟨b * 4096 + m, by omega⟩ : Fin 32768) : ℕ) % 4096, by omega⟩ : Fin 4096) = m := Fin.ext (by dsimp only; omega)
  have hD := RefGrid.grid_at x0 b m X Y hX hY hg.third hg.fourth
  refine (combine _ a w m o _ _ _ (stack_of l0 l1 l2 l3 m _ _ _ _ hg e0 e1 e2 e3 X Y hX hY) ha hw _
    (first_at x0 x1 x2 (fun c => h2 _) ⟨b * 4096 + m, by omega⟩ _ (fun ch k => ?_)) _
    (first_normed_at x0 x1 x2 x3 x4 (fun c => h3 _) (fun c => h4 _) ⟨b * 4096 + m, by omega⟩) _
    (second_at x0 x1 x2 x3 x4 x5 x6 (fun c => h6 _) ⟨b * 4096 + m, by omega⟩)).trans
    (second_normed_at x0 x1 x2 x3 x4 x5 x6 x7 x8 (fun c => h7 _) (fun c => h8 _) b m o).symm
  rw [i1, i2]
  exact hD ch k

end Cert.Proof.Point

end
-- ==== Proof.Final.lean ====
module

public import proofs.«01_k».proof.Proof.Point
public import proofs.«01_k».proof.Defs
public import proofs.«01_k».proof.Proof.Gen.ReferenceIdeal.Run
public import Idealize.ShloMosaic.Lib.Claim

@[expose] public section

set_option maxRecDepth 16384

noncomputable section

/-! The result array after the kernel's run: its eight blocks, each settled at one symbolic grid point. -/

namespace Cert.Proof.Final

open Idealize.ShloMosaic Idealize.ShloMosaic.TcCoe Idealize.SL.Sem Idealize.ShloMosaic.Pipeline
open Cert.Proof Cert.Proof.Geom Cert.Proof.KernelVal Cert.Proof.Layers Cert.Proof.Point
open Cert.KernelIdeal Cert.KernelIdeal.Gen

variable (m : (ℓ : Loc nD τ sig) → Buf (Elt Ideal) ℓ) (c : Dev nD)

/-- Where each window's block lies at a grid point. -/
theorem idx : ∀ t : Fin cfg0.N, win0_0.index t = ![(t : ℕ), 0, 0, 0] ∧ win0_1.index t = ![0, 0] ∧ win0_2.index t = ![0, 0]
    ∧ win0_3.index t = ![(t : ℕ), 0, 0] :=
  (by decide +kernel : ∀ t : Fin grid0.N, _)

/-- A grid point's block of points. -/
theorem block0_at (t : Fin cfg0.N) (ch : Fin 6) (p : Fin 32) (g : Fin 4096) :
    (iblk m c 0 t : Vec Ideal S1x6x32x4096 .f32) (ix4 0 ch p g)
      = (m ((c : Thread nD τ).loc main_arg0) : FVec Ideal S8x4096x32x6 .f32) (ix4 (⟨t, t.isLt⟩ : Fin 8) g p ch) := by
  refine Eq.trans ?_ (Windows.points_at m c ⟨t, t.isLt⟩ ch p g)
  blk_simp [iblk]
  refine congrArg (V m c main_v0 : FVec Ideal S8x6x32x4096 .f32) ?_
  blk_ext [idx t]

/-- The first layer's weights, whole at every grid point. -/
theorem block1_at (t : Fin cfg0.N) (r : Fin 512) (y : Fin 48) :
    (iblk m c 1 t : Vec Ideal S512x48 .f32) (ix2 r y)
      = centred1 (fun o ch => (m ((c : Thread nD τ).loc main_arg1) : FVec Ideal S32x3x1x1 .f32) (ix4 o ch 0 0)) r y := by
  refine Eq.trans ?_ (Windows.weights1_at m c r y)
  blk_simp [iblk]
  refine congrArg (V m c main_v16 : FVec Ideal S512x48 .f32) ?_
  blk_ext [idx t]

/-- The second layer's weights, whole at every grid point. -/
theorem block2_at (t : Fin cfg0.N) (r : Fin 64) (y : Fin 512) :
    (iblk m c 2 t : Vec Ideal S64x512 .f32) (ix2 r y)
      = centred2 (fun o k => (m ((c : Thread nD τ).loc main_arg5) : FVec Ideal S64x32x4x4 .f32)
          (ix4 o ⟨k / 16, by omega⟩ ⟨k / 4 % 4, by omega⟩ ⟨k % 4, by omega⟩)) r y := by
  refine Eq.trans ?_ (Windows.weights2_at m c r y)
  blk_simp [iblk]
  refine congrArg (V m c main_v24 : FVec Ideal S64x512 .f32) ?_
  blk_ext [idx t]

/-- The body's load of channel 0 of its block. -/
theorem load0_at (x : Vec Ideal S1x6x32x4096 .f32) (p : Fin 32) (g : Fin 4096) :
    View.ld x r0_0 (ix4 0 0 p g) = x (ix4 0 0 p g) := by
  refine View.ld_unit_apply_of x _ _ _ _ _ fun a => ?_
  fin_cases a <;> simp [ix4]

/-- The body's load of channel 1 of its block. -/
theorem load1_at (x : Vec Ideal S1x6x32x4096 .f32) (p : Fin 32) (g : Fin 4096) :
    View.ld x r0_1 (ix4 0 0 p g) = x (ix4 0 1 p g) := by
  refine View.ld_unit_apply_of x _ _ _ _ _ fun a => ?_
  fin_cases a <;> simp [ix4]

/-- The body's load of channel 3 of its block. -/
theorem load2_at (x : Vec Ideal S1x6x32x4096 .f32) (p : Fin 32) (g : Fin 4096) :
    View.ld x r0_2 (ix4 0 0 p g) = x (ix4 0 3 p g) := by
  refine View.ld_unit_apply_of x _ _ _ _ _ fun a => ?_
  fin_cases a <;> simp [ix4]

/-- The body's load of channel 5 of its block. -/
theorem load3_at (x : Vec Ideal S1x6x32x4096 .f32) (p : Fin 32) (g : Fin 4096) :
    View.ld x r0_3 (ix4 0 0 p g) = x (ix4 0 5 p g) := by
  refine View.ld_unit_apply_of x _ _ _ _ _ fun a => ?_
  fin_cases a <;> simp [ix4]

/-- The result array after the run is the reference's last value of the launched arrays. -/
theorem final (hm : Pre_KernelIdeal_drawn m) :
    (dats m 0 c).arrAt 3 cfg0.N = Cert.ReferenceIdeal.Read.val_main_v157 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  have hp := point (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (hm c)
  obtain ⟨R, hR⟩ : ∃ R : FVec Ideal S8x4096x64 .f32, R = Cert.ReferenceIdeal.Read.val_main_v157 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := ⟨_, rfl⟩
  rw [← hR] at hp ⊢
  clear hR hm
  refine (dats m 0 c).arrAt_eq_of_covers 3 R (by decide +kernel) fun t hf y => ?_
  blk_simp
  rw [after0_3]
  frame_out
  have ei : ((View.whole main_v25).slice (win0_3.rect t)).emb y = ix3 (⟨t, t.isLt⟩ : Fin 8) (y 1) (y 2) := by
    blk_ext [idx t]
  have ey : y = ix3 0 (y 1) (y 2) := by blk_ext
  rw [ei, ey]
  refine (congrFun (pay_eq _ _ _ _ _ _) (ix3 0 (y 1) (y 2))).trans (hp _ _ _ _ _ _ _ _ _ ?_ ?_ ?_ ?_ ?_ ?_)
  · exact fun p => (load0_at _ p (y 1)).trans (block0_at m c t 0 p (y 1))
  · exact fun p => (load1_at _ p (y 1)).trans (block0_at m c t 1 p (y 1))
  · exact fun p => (load2_at _ p (y 1)).trans (block0_at m c t 3 p (y 1))
  · exact fun p => (load3_at _ p (y 1)).trans (block0_at m c t 5 p (y 1))
  · exact block1_at m c t
  · exact block2_at m c t

end Cert.Proof.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem

/-- The reference runs to completion, leaving its arguments unchanged and every counter at zero. -/
theorem frame_ref : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- From equal arguments that meet the precondition, the kernel and the reference end with equal results. -/
theorem algebraic : Cert.algebraic_KernelIdeal_ReferenceIdeal_pre_drawn := by
  pair_intro
  · run_from Cert.KernelIdeal.Value.run_blocks m g
  · run_from Cert.ReferenceIdeal.Value.run m' g'
    refine Eq.trans ?_ (Final.final m c hpre).symm
    obtain ⟨a0, a1, a2, a3, a4, a5, a6, a7, a8⟩ := hagree c
    rw [← a0, ← a1, ← a2, ← a3, ← a4, ← a5, ← a6, ← a7, ← a8]
    exact Cert.ReferenceIdeal.Read.val_main_v157_eq (StableHlo.launchContents m' c)

/-- The whole claim. -/
theorem claim : Cert.Claim := ⟨inferInstance, inferInstance, inferInstance, inferInstance,
  fun m ρ _ => Cert.Kernel.Gen.frame m ρ, fun m ρ _ => Cert.KernelIdeal.Gen.frame m ρ,
  fun m ρ _ => Cert.KernelIdeal.Gen.frame m ρ, frame_ref, fun m ρ _ => frame_ref m ρ trivial, trivial, algebraic⟩

end Cert.Proof

end
